-- ==== Defs.lean ====
def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4)
      ∧ r.2.mem ((c.tc : Thread Cert.Wout.nD Cert.Wout.τ).loc Cert.Wout.main_arg5) = m ((c.tc : Thread Cert.Wout.nD Cert.Wout.τ).loc Cert.Wout.main_arg5)
      ∧ r.2.mem ((c.tc : Thread Cert.Wout.nD Cert.Wout.τ).loc Cert.Wout.main_arg6) = m ((c.tc : Thread Cert.Wout.nD Cert.Wout.τ).loc Cert.Wout.main_arg6)
      ∧ r.2.mem ((c.tc : Thread Cert.Wout.nD Cert.Wout.τ).loc Cert.Wout.main_arg7) = m ((c.tc : Thread Cert.Wout.nD Cert.Wout.τ).loc Cert.Wout.main_arg7)
      ∧ r.2.mem ((c.tc : Thread Cert.Wout.nD Cert.Wout.τ).loc Cert.Wout.main_arg8) = m ((c.tc : Thread Cert.Wout.nD Cert.Wout.τ).loc Cert.Wout.main_arg8)
      ∧ r.2.mem ((c.tc : Thread Cert.Wout.nD Cert.Wout.τ).loc Cert.Wout.main_arg9) = m ((c.tc : Thread Cert.Wout.nD Cert.Wout.τ).loc Cert.Wout.main_arg9)
      ∧ r.2.mem ((c.tc : Thread Cert.Wout.nD Cert.Wout.τ).loc Cert.Wout.main_arg10) = m ((c.tc : Thread Cert.Wout.nD Cert.Wout.τ).loc Cert.Wout.main_arg10))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5)
      ∧ r.2.mem ((c.tc : Thread Cert.WoutIdeal.nD Cert.WoutIdeal.τ).loc Cert.WoutIdeal.main_arg6) = m ((c.tc : Thread Cert.WoutIdeal.nD Cert.WoutIdeal.τ).loc Cert.WoutIdeal.main_arg6)
      ∧ r.2.mem ((c.tc : Thread Cert.WoutIdeal.nD Cert.WoutIdeal.τ).loc Cert.WoutIdeal.main_arg7) = m ((c.tc : Thread Cert.WoutIdeal.nD Cert.WoutIdeal.τ).loc Cert.WoutIdeal.main_arg7)
      ∧ r.2.mem ((c.tc : Thread Cert.WoutIdeal.nD Cert.WoutIdeal.τ).loc Cert.WoutIdeal.main_arg8) = m ((c.tc : Thread Cert.WoutIdeal.nD Cert.WoutIdeal.τ).loc Cert.WoutIdeal.main_arg8)
      ∧ r.2.mem ((c.tc : Thread Cert.WoutIdeal.nD Cert.WoutIdeal.τ).loc Cert.WoutIdeal.main_arg9) = m ((c.tc : Thread Cert.WoutIdeal.nD Cert.WoutIdeal.τ).loc Cert.WoutIdeal.main_arg9)
      ∧ r.2.mem ((c.tc : Thread Cert.WoutIdeal.nD Cert.WoutIdeal.τ).loc Cert.WoutIdeal.main_arg10) = m ((c.tc : Thread Cert.WoutIdeal.nD Cert.WoutIdeal.τ).loc Cert.WoutIdeal.main_arg10))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4)
      ∧ r.2.mem ((c.tc : Thread Cert.WoutRefIdeal.nD Cert.WoutRefIdeal.τ).loc Cert.WoutRefIdeal.main_arg5) = m ((c.tc : Thread Cert.WoutRefIdeal.nD Cert.WoutRefIdeal.τ).loc Cert.WoutRefIdeal.main_arg5)
      ∧ r.2.mem ((c.tc : Thread Cert.WoutRefIdeal.nD Cert.WoutRefIdeal.τ).loc Cert.WoutRefIdeal.main_arg6) = m ((c.tc : Thread Cert.WoutRefIdeal.nD Cert.WoutRefIdeal.τ).loc Cert.WoutRefIdeal.main_arg6)
      ∧ r.2.mem ((c.tc : Thread Cert.WoutRefIdeal.nD Cert.WoutRefIdeal.τ).loc Cert.WoutRefIdeal.main_arg7) = m ((c.tc : Thread Cert.WoutRefIdeal.nD Cert.WoutRefIdeal.τ).loc Cert.WoutRefIdeal.main_arg7)
      ∧ r.2.mem ((c.tc : Thread Cert.WoutRefIdeal.nD Cert.WoutRefIdeal.τ).loc Cert.WoutRefIdeal.main_arg8) = m ((c.tc : Thread Cert.WoutRefIdeal.nD Cert.WoutRefIdeal.τ).loc Cert.WoutRefIdeal.main_arg8)
      ∧ r.2.mem ((c.tc : Thread Cert.WoutRefIdeal.nD Cert.WoutRefIdeal.τ).loc Cert.WoutRefIdeal.main_arg9) = m ((c.tc : Thread Cert.WoutRefIdeal.nD Cert.WoutRefIdeal.τ).loc Cert.WoutRefIdeal.main_arg9)
      ∧ r.2.mem ((c.tc : Thread Cert.WoutRefIdeal.nD Cert.WoutRefIdeal.τ).loc Cert.WoutRefIdeal.main_arg10) = m ((c.tc : Thread Cert.WoutRefIdeal.nD Cert.WoutRefIdeal.τ).loc Cert.WoutRefIdeal.main_arg10))
      ∧ r.2.sem = fun _ => 0)

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v1_0)) (v1 : (c : Dev Cert.RouteIdeal.nD) → Buf (Elt Ideal) ((c.tc : Thread Cert.RouteIdeal.nD Cert.RouteIdeal.τ).loc Cert.RouteIdeal.main_v1_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1_0) = v0 c
          ∧ r.2.mem ((c.tc : Thread Cert.RouteIdeal.nD Cert.RouteIdeal.τ).loc Cert.RouteIdeal.main_v1_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v38) = v0 c
          ∧ r.2.mem ((c.tc : Thread Cert.RouteRefIdeal.nD Cert.RouteRefIdeal.τ).loc Cert.RouteRefIdeal.main_v40) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v11)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v11) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v29) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)
      ∧ m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5)
      ∧ m' ((c.tc : Thread Cert.WoutRefIdeal.nD Cert.WoutRefIdeal.τ).loc Cert.WoutRefIdeal.main_arg6) = m ((c.tc : Thread Cert.WoutIdeal.nD Cert.WoutIdeal.τ).loc Cert.WoutIdeal.main_arg6)
      ∧ m' ((c.tc : Thread Cert.WoutRefIdeal.nD Cert.WoutRefIdeal.τ).loc Cert.WoutRefIdeal.main_arg7) = m ((c.tc : Thread Cert.WoutIdeal.nD Cert.WoutIdeal.τ).loc Cert.WoutIdeal.main_arg7)
      ∧ m' ((c.tc : Thread Cert.WoutRefIdeal.nD Cert.WoutRefIdeal.τ).loc Cert.WoutRefIdeal.main_arg8) = m ((c.tc : Thread Cert.WoutIdeal.nD Cert.WoutIdeal.τ).loc Cert.WoutIdeal.main_arg8)
      ∧ m' ((c.tc : Thread Cert.WoutRefIdeal.nD Cert.WoutRefIdeal.τ).loc Cert.WoutRefIdeal.main_arg9) = m ((c.tc : Thread Cert.WoutIdeal.nD Cert.WoutIdeal.τ).loc Cert.WoutIdeal.main_arg9)
      ∧ m' ((c.tc : Thread Cert.WoutRefIdeal.nD Cert.WoutRefIdeal.τ).loc Cert.WoutRefIdeal.main_arg10) = m ((c.tc : Thread Cert.WoutIdeal.nD Cert.WoutIdeal.τ).loc Cert.WoutIdeal.main_arg10)) →
    ∃ (v0 : (c : Dev Cert.WoutIdeal.nD) → Buf (Elt Ideal) ((c.tc : Thread Cert.WoutIdeal.nD Cert.WoutIdeal.τ).loc Cert.WoutIdeal.main_v11_0)) (v1 : (c : Dev Cert.WoutIdeal.nD) → Buf (Elt Ideal) ((c.tc : Thread Cert.WoutIdeal.nD Cert.WoutIdeal.τ).loc Cert.WoutIdeal.main_v11_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v11_0) = v0 c
          ∧ r.2.mem ((c.tc : Thread Cert.WoutIdeal.nD Cert.WoutIdeal.τ).loc Cert.WoutIdeal.main_v11_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5)
          ∧ r.2.mem ((c.tc : Thread Cert.WoutIdeal.nD Cert.WoutIdeal.τ).loc Cert.WoutIdeal.main_arg6) = m ((c.tc : Thread Cert.WoutIdeal.nD Cert.WoutIdeal.τ).loc Cert.WoutIdeal.main_arg6)
          ∧ r.2.mem ((c.tc : Thread Cert.WoutIdeal.nD Cert.WoutIdeal.τ).loc Cert.WoutIdeal.main_arg7) = m ((c.tc : Thread Cert.WoutIdeal.nD Cert.WoutIdeal.τ).loc Cert.WoutIdeal.main_arg7)
          ∧ r.2.mem ((c.tc : Thread Cert.WoutIdeal.nD Cert.WoutIdeal.τ).loc Cert.WoutIdeal.main_arg8) = m ((c.tc : Thread Cert.WoutIdeal.nD Cert.WoutIdeal.τ).loc Cert.WoutIdeal.main_arg8)
          ∧ r.2.mem ((c.tc : Thread Cert.WoutIdeal.nD Cert.WoutIdeal.τ).loc Cert.WoutIdeal.main_arg9) = m ((c.tc : Thread Cert.WoutIdeal.nD Cert.WoutIdeal.τ).loc Cert.WoutIdeal.main_arg9)
          ∧ r.2.mem ((c.tc : Thread Cert.WoutIdeal.nD Cert.WoutIdeal.τ).loc Cert.WoutIdeal.main_arg10) = m ((c.tc : Thread Cert.WoutIdeal.nD Cert.WoutIdeal.τ).loc Cert.WoutIdeal.main_arg10))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v36) = v0 c
          ∧ r.2.mem ((c.tc : Thread Cert.WoutRefIdeal.nD Cert.WoutRefIdeal.τ).loc Cert.WoutRefIdeal.main_v55) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4)
          ∧ r.2.mem ((c.tc : Thread Cert.WoutRefIdeal.nD Cert.WoutRefIdeal.τ).loc Cert.WoutRefIdeal.main_arg5) = m' ((c.tc : Thread Cert.WoutRefIdeal.nD Cert.WoutRefIdeal.τ).loc Cert.WoutRefIdeal.main_arg5)
          ∧ r.2.mem ((c.tc : Thread Cert.WoutRefIdeal.nD Cert.WoutRefIdeal.τ).loc Cert.WoutRefIdeal.main_arg6) = m' ((c.tc : Thread Cert.WoutRefIdeal.nD Cert.WoutRefIdeal.τ).loc Cert.WoutRefIdeal.main_arg6)
          ∧ r.2.mem ((c.tc : Thread Cert.WoutRefIdeal.nD Cert.WoutRefIdeal.τ).loc Cert.WoutRefIdeal.main_arg7) = m' ((c.tc : Thread Cert.WoutRefIdeal.nD Cert.WoutRefIdeal.τ).loc Cert.WoutRefIdeal.main_arg7)
          ∧ r.2.mem ((c.tc : Thread Cert.WoutRefIdeal.nD Cert.WoutRefIdeal.τ).loc Cert.WoutRefIdeal.main_arg8) = m' ((c.tc : Thread Cert.WoutRefIdeal.nD Cert.WoutRefIdeal.τ).loc Cert.WoutRefIdeal.main_arg8)
          ∧ r.2.mem ((c.tc : Thread Cert.WoutRefIdeal.nD Cert.WoutRefIdeal.τ).loc Cert.WoutRefIdeal.main_arg9) = m' ((c.tc : Thread Cert.WoutRefIdeal.nD Cert.WoutRefIdeal.τ).loc Cert.WoutRefIdeal.main_arg9)
          ∧ r.2.mem ((c.tc : Thread Cert.WoutRefIdeal.nD Cert.WoutRefIdeal.τ).loc Cert.WoutRefIdeal.main_arg10) = m' ((c.tc : Thread Cert.WoutRefIdeal.nD Cert.WoutRefIdeal.τ).loc Cert.WoutRefIdeal.main_arg10))

def Claim : Prop :=
  ∃ (hRoute : Cert.Route.Facts) (hRouteIdeal : Cert.RouteIdeal.Facts) (hRouteRefIdeal : Cert.RouteRefIdeal.Facts) (hFfn : Cert.Ffn.Facts) (hFfnIdeal : Cert.FfnIdeal.Facts) (hFfnRefIdeal : Cert.FfnRefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts),
    quiescent_Route (hRoute := hRoute)
    ∧ quiescent_RouteIdeal (hRouteIdeal := hRouteIdeal)
    ∧ quiescent_RouteRefIdeal (hRouteRefIdeal := hRouteRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ preserves_Route_RouteIdeal
    ∧ algebraic_RouteIdeal_RouteRefIdeal (hRouteIdeal := hRouteIdeal) (hRouteRefIdeal := hRouteRefIdeal)
    ∧ preserves_Ffn_FfnIdeal
    ∧ algebraic_FfnIdeal_FfnRefIdeal (hFfnIdeal := hFfnIdeal) (hFfnRefIdeal := hFfnRefIdeal)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
-- ==== Route.lean ====
abbrev S16384x128 : Shape := ⟨2, ![16384, 128]⟩
abbrev S16384x2048 : Shape := ⟨2, ![16384, 2048]⟩
abbrev S8192x128 : Shape := ⟨2, ![8192, 128]⟩
abbrev S32x128x256 : Shape := ⟨3, ![32, 128, 256]⟩
abbrev S256x128 : Shape := ⟨2, ![256, 128]⟩
abbrev S1x128x256 : Shape := ⟨3, ![1, 128, 256]⟩
abbrev S1x128 : Shape := ⟨2, ![1, 128]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S16x1024x2048 : Shape := ⟨3, ![16, 1024, 2048]⟩
abbrev S16x1024x128 : Shape := ⟨3, ![16, 1024, 128]⟩
abbrev S256x2048 : Shape := ⟨2, ![256, 2048]⟩
abbrev S16x32x2048 : Shape := ⟨3, ![16, 32, 2048]⟩
abbrev S16x32x128 : Shape := ⟨3, ![16, 32, 128]⟩
abbrev S32x1 : Shape := ⟨2, ![32, 1]⟩
abbrev S1x1x256 : Shape := ⟨3, ![1, 1, 256]⟩
abbrev S32x256 : Shape := ⟨2, ![32, 256]⟩
abbrev S512x256 : Shape := ⟨2, ![512, 256]⟩
abbrev S512x2048 : Shape := ⟨2, ![512, 2048]⟩
abbrev S512x128 : Shape := ⟨2, ![512, 128]⟩
abbrev S32x2048 : Shape := ⟨2, ![32, 2048]⟩
abbrev S1x32x2048 : Shape := ⟨3, ![1, 32, 2048]⟩
abbrev S32x128 : Shape := ⟨2, ![32, 128]⟩
abbrev S1x32x128 : Shape := ⟨3, ![1, 32, 128]⟩

abbrev nBuf : Space → Nat
  | .hbm => 7
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x2048, .bf16⟩
  | .hbm, ⟨2, _⟩ => ⟨S8192x128, .f32⟩
  | .hbm, ⟨3, _⟩ => ⟨S8192x128, .f32⟩
  | .hbm, ⟨4, _⟩ => ⟨S32x128x256, .f32⟩
  | .hbm, ⟨5, _⟩ => ⟨S16x1024x2048, .bf16⟩
  | .hbm, ⟨6, _⟩ => ⟨S16x1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128x256, .f32⟩
  | .local _ .vmem, ⟨7, _⟩ => ⟨S1x128x256, .f32⟩
  | .local _ .vmem, ⟨8, _⟩ => ⟨S256x2048, .bf16⟩
  | .local _ .vmem, ⟨9, _⟩ => ⟨S256x2048, .bf16⟩
  | .local _ .vmem, ⟨10, _⟩ => ⟨S1x128x256, .f32⟩
  | .local _ .vmem, ⟨11, _⟩ => ⟨S1x128x256, .f32⟩
  | .local _ .vmem, ⟨12, _⟩ => ⟨S256x128, .f32⟩
  | .local _ .vmem, ⟨13, _⟩ => ⟨S256x128, .f32⟩
  | .local _ .vmem, ⟨14, _⟩ => ⟨S16x32x2048, .bf16⟩
  | .local _ .vmem, ⟨15, _⟩ => ⟨S16x32x2048, .bf16⟩
  | .local _ .vmem, ⟨16, _⟩ => ⟨S16x32x128, .f32⟩
  | .local _ .vmem, ⟨17, _⟩ => ⟨S16x32x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x32x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== RouteRefIdeal.lean ====
abbrev S16384x128 : Shape := ⟨2, ![16384, 128]⟩
abbrev S16384x2048 : Shape := ⟨2, ![16384, 2048]⟩
abbrev S8192x2048 : Shape := ⟨2, ![8192, 2048]⟩
abbrev S32x256x2048 : Shape := ⟨3, ![32, 256, 2048]⟩
abbrev S128 : Shape := ⟨1, ![128]⟩
abbrev S_ : Shape := ⟨0, ![]⟩
abbrev S8192x128 : Shape := ⟨2, ![8192, 128]⟩
abbrev S32x256x128 : Shape := ⟨3, ![32, 256, 128]⟩
abbrev S32x256 : Shape := ⟨2, ![32, 256]⟩
abbrev S32x256x1 : Shape := ⟨3, ![32, 256, 1]⟩
abbrev S32x256x16 : Shape := ⟨3, ![32, 256, 16]⟩
abbrev S32x16x256 : Shape := ⟨3, ![32, 16, 256]⟩
abbrev S32x16x32 : Shape := ⟨3, ![32, 16, 32]⟩
abbrev S32x16x32x1 : Shape := ⟨4, ![32, 16, 32, 1]⟩
abbrev S32x16x32x2048 : Shape := ⟨4, ![32, 16, 32, 2048]⟩
abbrev S32x16x32x128 : Shape := ⟨4, ![32, 16, 32, 128]⟩
abbrev S16x32x32x2048 : Shape := ⟨4, ![16, 32, 32, 2048]⟩
abbrev S16x1024x2048 : Shape := ⟨3, ![16, 1024, 2048]⟩
abbrev S16x32x32x128 : Shape := ⟨4, ![16, 32, 32, 128]⟩
abbrev S16x1024x128 : Shape := ⟨3, ![16, 1024, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x2048, .bf16⟩
  | .hbm, ⟨2, _⟩ => ⟨S8192x2048, .bf16⟩
  | .hbm, ⟨3, _⟩ => ⟨S8192x2048, .f32⟩
  | .hbm, ⟨4, _⟩ => ⟨S32x256x2048, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S8192x128, .f32⟩
  | .hbm, ⟨10, _⟩ => ⟨S32x256x128, .f32⟩
  | .hbm, ⟨11, _⟩ => ⟨S_, .f32⟩
  | .hbm, ⟨12, _⟩ => ⟨S_, .f32⟩
  | .hbm, ⟨13, _⟩ => ⟨S32x256x128, .i1⟩
  | .hbm, ⟨14, _⟩ => ⟨S32x256x128, .f32⟩
  | .hbm, ⟨15, _⟩ => ⟨S32x256x128, .f32⟩
  | .hbm, ⟨16, _⟩ => ⟨S_, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256x1, .f32⟩
  | .hbm, ⟨22, _⟩ => ⟨S32x256x128, .f32⟩
  | .hbm, ⟨23, _⟩ => ⟨S32x256x128, .f32⟩
  | .hbm, ⟨24, _⟩ => ⟨S32x256x128, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S32x256x128, .f32⟩
  | .hbm, ⟨29, _⟩ => ⟨S32x256x128, .f32⟩
  | .hbm, ⟨30, _⟩ => ⟨S32x256x16, .f32⟩
  | .hbm, ⟨31, _⟩ => ⟨S32x16x256, .f32⟩
  | .hbm, ⟨32, _⟩ => ⟨S32x16x32, .f32⟩
  | .hbm, ⟨33, _⟩ => ⟨S32x16x32, .i32⟩
  | .hbm, ⟨34, _⟩ => ⟨S_, .i32⟩
  | .hbm, ⟨35, _⟩ => ⟨S32x16x32, .i32⟩
  | .hbm, ⟨36, _⟩ => ⟨S32x16x32, .i1⟩
  | .hbm, ⟨37, _⟩ => ⟨S_, .i32⟩
  | .hbm, ⟨38, _⟩ => ⟨S32x16x32, .i32⟩
  | .hbm, ⟨39, _⟩ => ⟨S32x16x32, .i32⟩
  | .hbm, ⟨40, _⟩ => ⟨S32x16x32, .i32⟩
  | .hbm, ⟨41, _⟩ => ⟨S32x16x32x1, .i32⟩
  | .hbm, ⟨42, _⟩ => ⟨S32x16x32x2048, .f32⟩
  | .hbm, ⟨43, _⟩ => ⟨S_, .i32⟩
  | .hbm, ⟨44, _⟩ => ⟨S32x16x32, .i32⟩
  | .hbm, ⟨45, _⟩ => ⟨S32x16x32, .i1⟩
  | .hbm, ⟨46, _⟩ => ⟨S_, .i32⟩
  | .hbm, ⟨47, _⟩ => ⟨S32x16x32, .i32⟩
  | .hbm, ⟨48, _⟩ => ⟨S32x16x32, .i32⟩
  | .hbm, ⟨49, _⟩ => ⟨S32x16x32, .i32⟩
  | .hbm, ⟨50, _⟩ => ⟨S32x16x32x1, .i32⟩
  | .hbm, ⟨51, _⟩ => ⟨S32x16x32x128, .f32⟩
  | .hbm, ⟨52, _⟩ => ⟨S16x32x32x2048, .f32⟩
  | .hbm, ⟨53, _⟩ => ⟨S16x1024x2048, .f32⟩
  | .hbm, ⟨54, _⟩ => ⟨S16x1024x2048, .bf16⟩
  | .hbm, ⟨55, _⟩ => ⟨S16x32x32x128, .f32⟩
  | .hbm, ⟨56, _⟩ => ⟨S16x1024x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_values : Ref sig .tc := ⟨.hbm, 32, rfl⟩
abbrev main_indices : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Ffn.lean ====
abbrev S16x1024x2048 : Shape := ⟨3, ![16, 1024, 2048]⟩
abbrev S16x1024x128 : Shape := ⟨3, ![16, 1024, 128]⟩
abbrev S2x16x2048x1024 : Shape := ⟨4, ![2, 16, 2048, 1024]⟩
abbrev S2x16x1024x2048 : Shape := ⟨4, ![2, 16, 1024, 2048]⟩
abbrev S32x512x2048 : Shape := ⟨3, ![32, 512, 2048]⟩
abbrev S1x1024x2048 : Shape := ⟨3, ![1, 1024, 2048]⟩
abbrev S1x1x2048x256 : Shape := ⟨4, ![1, 1, 2048, 256]⟩
abbrev S1x1x256x2048 : Shape := ⟨4, ![1, 1, 256, 2048]⟩
abbrev S1x1024x128 : Shape := ⟨3, ![1, 1024, 128]⟩
abbrev S32x32x2048 : Shape := ⟨3, ![32, 32, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S32x2048 : Shape := ⟨2, ![32, 2048]⟩
abbrev S32x1 : Shape := ⟨2, ![32, 1]⟩
abbrev S1x32x2048 : Shape := ⟨3, ![1, 32, 2048]⟩

abbrev nBuf : Space → Nat
  | .hbm => 6
  | .vmem => 13
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x128, .f32⟩
  | .hbm, ⟨2, _⟩ => ⟨S2x16x2048x1024, .f32⟩
  | .hbm, ⟨3, _⟩ => ⟨S2x16x2048x1024, .f32⟩
  | .hbm, ⟨4, _⟩ => ⟨S2x16x1024x2048, .f32⟩
  | .hbm, ⟨5, _⟩ => ⟨S32x512x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1024x128, .f32⟩
  | .local _ .vmem, ⟨9, _⟩ => ⟨S1x1024x128, .f32⟩
  | .local _ .vmem, ⟨10, _⟩ => ⟨S32x32x2048, .bf16⟩
  | .local _ .vmem, ⟨11, _⟩ => ⟨S32x32x2048, .bf16⟩
  | .local _ .vmem, ⟨12, _⟩ => ⟨S1024x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_22 : BitVec 32 := 0#32
  let v32 : BitVec 1 := Scalar.cmpi .ne v31 c0_i32_22
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16x1024x2048 : Shape := ⟨3, ![16, 1024, 2048]⟩
abbrev S16x1024x128 : Shape := ⟨3, ![16, 1024, 128]⟩
abbrev S2x16x2048x1024 : Shape := ⟨4, ![2, 16, 2048, 1024]⟩
abbrev S2x16x1024x2048 : Shape := ⟨4, ![2, 16, 1024, 2048]⟩
abbrev S1x16x2048x1024 : Shape := ⟨4, ![1, 16, 2048, 1024]⟩
abbrev S16x2048x1024 : Shape := ⟨3, ![16, 2048, 1024]⟩
abbrev S16x1024x1024 : Shape := ⟨3, ![16, 1024, 1024]⟩
abbrev S_ : Shape := ⟨0, ![]⟩
abbrev S1x1024x1 : Shape := ⟨3, ![1, 1024, 1]⟩
abbrev S1024 : Shape := ⟨1, ![1024]⟩
abbrev S1x1024 : Shape := ⟨2, ![1, 1024]⟩
abbrev S16x1024 : Shape := ⟨2, ![16, 1024]⟩
abbrev S1x16x1024x2048 : Shape := ⟨4, ![1, 16, 1024, 2048]⟩
abbrev S16x1024x1 : Shape := ⟨3, ![16, 1024, 1]⟩
abbrev S16x32x32x2048 : Shape := ⟨4, ![16, 32, 32, 2048]⟩
abbrev S32x16x32x2048 : Shape := ⟨4, ![32, 16, 32, 2048]⟩
abbrev S32x512x2048 : Shape := ⟨3, ![32, 512, 2048]⟩

abbrev nBuf : Space → Nat
  | .hbm => 81
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x1024x128, .f32⟩
  | .hbm, ⟨2, _⟩ => ⟨S2x16x2048x1024, .f32⟩
  | .hbm, ⟨3, _⟩ => ⟨S2x16x2048x1024, .f32⟩
  | .hbm, ⟨4, _⟩ => ⟨S2x16x1024x2048, .f32⟩
  | .hbm, ⟨5, _⟩ => ⟨S16x1024x2048, .f32⟩
  | .hbm, ⟨6, _⟩ => ⟨S1x16x2048x1024, .f32⟩
  | .hbm, ⟨7, _⟩ => ⟨S16x2048x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S1x16x2048x1024, .f32⟩
  | .hbm, ⟨19, _⟩ => ⟨S16x2048x1024, .f32⟩
  | .hbm, ⟨20, _⟩ => ⟨S16x1024x1024, .f32⟩
  | .hbm, ⟨21, _⟩ => ⟨S16x1024x1024, .f32⟩
  | .hbm, ⟨22, _⟩ => ⟨S1x1024x1, .f32⟩
  | .hbm, ⟨23, _⟩ => ⟨S1024, .f32⟩
  | .hbm, ⟨24, _⟩ => ⟨S1x1024x1, .f32⟩
  | .hbm, ⟨25, _⟩ => ⟨S1024, .f32⟩
  | .hbm, ⟨26, _⟩ => ⟨S1x1024x1, .f32⟩
  | .hbm, ⟨27, _⟩ => ⟨S1024, .f32⟩
  | .hbm, ⟨28, _⟩ => ⟨S1x1024x1, .f32⟩
  | .hbm, ⟨29, _⟩ => ⟨S1024, .f32⟩
  | .hbm, ⟨30, _⟩ => ⟨S1x1024x1, .f32⟩
  | .hbm, ⟨31, _⟩ => ⟨S1024, .f32⟩
  | .hbm, ⟨32, _⟩ => ⟨S1x1024x1, .f32⟩
  | .hbm, ⟨33, _⟩ => ⟨S1024, .f32⟩
  | .hbm, ⟨34, _⟩ => ⟨S1x1024x1, .f32⟩
  | .hbm, ⟨35, _⟩ => ⟨S1024, .f32⟩
  | .hbm, ⟨36, _⟩ => ⟨S1x1024x1, .f32⟩
  | .hbm, ⟨37, _⟩ => ⟨S1024, .f32⟩
  | .hbm, ⟨38, _⟩ => ⟨S1x1024x1, .f32⟩
  | .hbm, ⟨39, _⟩ => ⟨S1024, .f32⟩
  | .hbm, ⟨40, _⟩ => ⟨S1x1024x1, .f32⟩
  | .hbm, ⟨41, _⟩ => ⟨S1024, .f32⟩
  | .hbm, ⟨42, _⟩ => ⟨S1x1024x1, .f32⟩
  | .hbm, ⟨43, _⟩ => ⟨S1024, .f32⟩
  | .hbm, ⟨44, _⟩ => ⟨S1x1024x1, .f32⟩
  | .hbm, ⟨45, _⟩ => ⟨S1024, .f32⟩
  | .hbm, ⟨46, _⟩ => ⟨S1x1024x1, .f32⟩
  | .hbm, ⟨47, _⟩ => ⟨S1024, .f32⟩
  | .hbm, ⟨48, _⟩ => ⟨S1x1024x1, .f32⟩
  | .hbm, ⟨49, _⟩ => ⟨S1024, .f32⟩
  | .hbm, ⟨50, _⟩ => ⟨S1x1024x1, .f32⟩
  | .hbm, ⟨51, _⟩ => ⟨S1024, .f32⟩
  | .hbm, ⟨52, _⟩ => ⟨S1x1024x1, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S16x1024, .f32⟩
  | .hbm, ⟨71, _⟩ => ⟨S1x16x1024x2048, .f32⟩
  | .hbm, ⟨72, _⟩ => ⟨S16x1024x2048, .f32⟩
  | .hbm, ⟨73, _⟩ => ⟨S16x1024x2048, .f32⟩
  | .hbm, ⟨74, _⟩ => ⟨S16x1024x1, .f32⟩
  | .hbm, ⟨75, _⟩ => ⟨S16x1024x2048, .f32⟩
  | .hbm, ⟨76, _⟩ => ⟨S16x1024x2048, .f32⟩
  | .hbm, ⟨77, _⟩ => ⟨S16x32x32x2048, .f32⟩
  | .hbm, ⟨78, _⟩ => ⟨S32x16x32x2048, .f32⟩
  | .hbm, ⟨79, _⟩ => ⟨S32x512x2048, .f32⟩
  | .hbm, ⟨80, _⟩ => ⟨S32x512x2048, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Win.lean ====
abbrev S16384x2048 : Shape := ⟨2, ![16384, 2048]⟩
abbrev S8x1x2048 : Shape := ⟨3, ![8, 1, 2048]⟩
abbrev S2048x5528 : Shape := ⟨2, ![2048, 5528]⟩
abbrev S16 : Shape := ⟨1, ![16]⟩
abbrev S_ : Shape := ⟨0, ![]⟩
abbrev S2048x52 : Shape := ⟨2, ![2048, 52]⟩
abbrev S2048x1920 : Shape := ⟨2, ![2048, 1920]⟩
abbrev S2048x12 : Shape := ⟨2, ![2048, 12]⟩
abbrev S2048x768 : Shape := ⟨2, ![2048, 768]⟩
abbrev S2048x256 : Shape := ⟨2, ![2048, 256]⟩
abbrev S2048x5632 : Shape := ⟨2, ![2048, 5632]⟩
abbrev S16384x5632 : Shape := ⟨2, ![16384, 5632]⟩
abbrev S1024x2048 : Shape := ⟨2, ![1024, 2048]⟩
abbrev S1x1x2048 : Shape := ⟨3, ![1, 1, 2048]⟩
abbrev S1 : Shape := ⟨1, ![1]⟩
abbrev S2048x512 : Shape := ⟨2, ![2048, 512]⟩
abbrev S1024x512 : Shape := ⟨2, ![1024, 512]⟩
abbrev S1x2048 : Shape := ⟨2, ![1, 2048]⟩

abbrev nBuf : Space → Nat
  | .hbm => 17
  | .vmem => 11
  | .smem => 1
  | _ => 0

abbrev bufTy : (tb : Table) → Fin (tcTables nBuf tb) → BufTy
  | .hbm, ⟨0, _⟩ => ⟨S16384x2048, .f32⟩
  | .hbm, ⟨1, _⟩ => ⟨S8x1x2048, .f32⟩
  | .hbm, ⟨2, _⟩ => ⟨S8x1x2048, .f32⟩
  | .hbm, ⟨3, _⟩ => ⟨S2048x5528, .f32⟩
  | .hbm, ⟨4, _⟩ => ⟨S_, .f32⟩
  | .hbm, ⟨5, _⟩ => ⟨S2048x52, .f32⟩
  | .hbm, ⟨6, _⟩ => ⟨S2048x1920, .f32⟩
  | .hbm, ⟨7, _⟩ => ⟨S2048x12, .f32⟩
  | .hbm, ⟨8, _⟩ => ⟨S2048x12, .f32⟩
  | .hbm, ⟨9, _⟩ => ⟨S2048x768, .f32⟩
  | .hbm, ⟨10, _⟩ => ⟨S2048x768, .f32⟩
  | .hbm, ⟨11, _⟩ => ⟨S2048x256, .f32⟩
  | .hbm, ⟨12, _⟩ => ⟨S2048x768, .f32⟩
  | .hbm, ⟨13, _⟩ => ⟨S2048x768, .f32⟩
  | .hbm, ⟨14, _⟩ => ⟨S2048x256, .f32⟩
  | .hbm, ⟨15, _⟩ => ⟨S2048x5632, .f32⟩
  | .hbm, ⟨16, _⟩ => ⟨S16384x5632, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | .local _ .smem, ⟨0, _⟩ => ⟨S16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WinRefIdeal.lean ====
abbrev S16384x2048 : Shape := ⟨2, ![16384, 2048]⟩
abbrev S8x1x2048 : Shape := ⟨3, ![8, 1, 2048]⟩
abbrev S2048x5528 : Shape := ⟨2, ![2048, 5528]⟩
abbrev S1x1x2048 : Shape := ⟨3, ![1, 1, 2048]⟩
abbrev S1x2048 : Shape := ⟨2, ![1, 2048]⟩
abbrev S8192x2048 : Shape := ⟨2, ![8192, 2048]⟩
abbrev S4x1x2048 : Shape := ⟨3, ![4, 1, 2048]⟩
abbrev S4x2048x2048 : Shape := ⟨3, ![4, 2048, 2048]⟩
abbrev S_ : Shape := ⟨0, ![]⟩
abbrev S16384x5528 : Shape := ⟨2, ![16384, 5528]⟩
abbrev S16384x1920 : Shape := ⟨2, ![16384, 1920]⟩
abbrev S16384x768 : Shape := ⟨2, ![16384, 768]⟩
abbrev S16384x256 : Shape := ⟨2, ![16384, 256]⟩
abbrev S16384x12 : Shape := ⟨2, ![16384, 12]⟩
abbrev S16384x52 : Shape := ⟨2, ![16384, 52]⟩
abbrev S16384x5632 : Shape := ⟨2, ![16384, 5632]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x2048, .f32⟩
  | .hbm, ⟨2, _⟩ => ⟨S8x1x2048, .f32⟩
  | .hbm, ⟨3, _⟩ => ⟨S2048x5528, .f32⟩
  | .hbm, ⟨4, _⟩ => ⟨S1x1x2048, .f32⟩
  | .hbm, ⟨5, _⟩ => ⟨S1x2048, .f32⟩
  | .hbm, ⟨6, _⟩ => ⟨S8192x2048, .f32⟩
  | .hbm, ⟨7, _⟩ => ⟨S4x1x2048, .f32⟩
  | .hbm, ⟨8, _⟩ => ⟨S4x2048x2048, .f32⟩
  | .hbm, ⟨9, _⟩ => ⟨S8192x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S1x1x2048, .f32⟩
  | .hbm, ⟨16, _⟩ => ⟨S1x2048, .f32⟩
  | .hbm, ⟨17, _⟩ => ⟨S8192x2048, .f32⟩
  | .hbm, ⟨18, _⟩ => ⟨S4x1x2048, .f32⟩
  | .hbm, ⟨19, _⟩ => ⟨S4x2048x2048, .f32⟩
  | .hbm, ⟨20, _⟩ => ⟨S8192x2048, .f32⟩
  | .hbm, ⟨21, _⟩ => ⟨S16384x2048, .f32⟩
  | .hbm, ⟨22, _⟩ => ⟨S16384x2048, .f32⟩
  | .hbm, ⟨23, _⟩ => ⟨S16384x5528, .f32⟩
  | .hbm, ⟨24, _⟩ => ⟨S16384x1920, .f32⟩
  | .hbm, ⟨25, _⟩ => ⟨S16384x768, .f32⟩
  | .hbm, ⟨26, _⟩ => ⟨S16384x768, .f32⟩
  | .hbm, ⟨27, _⟩ => ⟨S16384x768, .f32⟩
  | .hbm, ⟨28, _⟩ => ⟨S16384x768, .f32⟩
  | .hbm, ⟨29, _⟩ => ⟨S16384x256, .f32⟩
  | .hbm, ⟨30, _⟩ => ⟨S16384x256, .f32⟩
  | .hbm, ⟨31, _⟩ => ⟨S16384x12, .f32⟩
  | .hbm, ⟨32, _⟩ => ⟨S16384x12, .f32⟩
  | .hbm, ⟨33, _⟩ => ⟨S_, .f32⟩
  | .hbm, ⟨34, _⟩ => ⟨S16384x52, .f32⟩
  | .hbm, ⟨35, _⟩ => ⟨S16384x5632, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Wout.lean ====
abbrev S16384x512 : Shape := ⟨2, ![16384, 512]⟩
abbrev S16384x768 : Shape := ⟨2, ![16384, 768]⟩
abbrev S16384x2048 : Shape := ⟨2, ![16384, 2048]⟩
abbrev S2048x2048 : Shape := ⟨2, ![2048, 2048]⟩
abbrev S8x1x2048 : Shape := ⟨3, ![8, 1, 2048]⟩
abbrev S2048 : Shape := ⟨1, ![2048]⟩
abbrev S2048x16 : Shape := ⟨2, ![2048, 16]⟩
abbrev S32 : Shape := ⟨1, ![32]⟩
abbrev S_ : Shape := ⟨0, ![]⟩
abbrev S2048x128 : Shape := ⟨2, ![2048, 128]⟩
abbrev S1x2048x128 : Shape := ⟨3, ![1, 2048, 128]⟩
abbrev S2x2048x128 : Shape := ⟨3, ![2, 2048, 128]⟩
abbrev S1x2048 : Shape := ⟨2, ![1, 2048]⟩
abbrev S16384x128 : Shape := ⟨2, ![16384, 128]⟩
abbrev S512x512 : Shape := ⟨2, ![512, 512]⟩
abbrev S512x768 : Shape := ⟨2, ![512, 768]⟩
abbrev S512x2048 : Shape := ⟨2, ![512, 2048]⟩
abbrev S1x1x2048 : Shape := ⟨3, ![1, 1, 2048]⟩
abbrev S1 : Shape := ⟨1, ![1]⟩
abbrev S512x128 : Shape := ⟨2, ![512, 128]⟩
abbrev S256x512 : Shape := ⟨2, ![256, 512]⟩
abbrev S256x2048 : Shape := ⟨2, ![256, 2048]⟩
abbrev S256x768 : Shape := ⟨2, ![256, 768]⟩
abbrev S768x2048 : Shape := ⟨2, ![768, 2048]⟩
abbrev S256 : Shape := ⟨1, ![256]⟩
abbrev S256x1 : Shape := ⟨2, ![256, 1]⟩
abbrev S256x128 : Shape := ⟨2, ![256, 128]⟩

abbrev nBuf : Space → Nat
  | .hbm => 27
  | .vmem => 24
  | .smem => 1
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x768, .f32⟩
  | .hbm, ⟨3, _⟩ => ⟨S16384x2048, .f32⟩
  | .hbm, ⟨4, _⟩ => ⟨S2048x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S2048, .f32⟩
  | .hbm, ⟨9, _⟩ => ⟨S2048, .f32⟩
  | .hbm, ⟨10, _⟩ => ⟨S2048x16, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S1x2048x128, .bf16⟩
  | .hbm, ⟨19, _⟩ => ⟨S1x2048x128, .bf16⟩
  | .hbm, ⟨20, _⟩ => ⟨S2x2048x128, .bf16⟩
  | .hbm, ⟨21, _⟩ => ⟨S2048x2048, .bf16⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .bf16⟩
  | .hbm, ⟨26, _⟩ => ⟨S16384x128, .f32⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S1x2048, .f32⟩
  | .local _ .vmem, ⟨17, _⟩ => ⟨S2x2048x128, .bf16⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S512x128, .f32⟩
  | .local _ .vmem, ⟨23, _⟩ => ⟨S512x128, .f32⟩
  | .local _ .smem, ⟨0, _⟩ => ⟨S32, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c_0 : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== WoutRefIdeal.lean ====
abbrev S16384x512 : Shape := ⟨2, ![16384, 512]⟩
abbrev S16384x768 : Shape := ⟨2, ![16384, 768]⟩
abbrev S16384x2048 : Shape := ⟨2, ![16384, 2048]⟩
abbrev S2048x2048 : Shape := ⟨2, ![2048, 2048]⟩
abbrev S8x1x2048 : Shape := ⟨3, ![8, 1, 2048]⟩
abbrev S2048 : Shape := ⟨1, ![2048]⟩
abbrev S2048x16 : Shape := ⟨2, ![2048, 16]⟩
abbrev S_ : Shape := ⟨0, ![]⟩
abbrev S1x1x2048 : Shape := ⟨3, ![1, 1, 2048]⟩
abbrev S1x2048 : Shape := ⟨2, ![1, 2048]⟩
abbrev S8192x2048 : Shape := ⟨2, ![8192, 2048]⟩
abbrev S4x1x2048 : Shape := ⟨3, ![4, 1, 2048]⟩
abbrev S4x2048x2048 : Shape := ⟨3, ![4, 2048, 2048]⟩
abbrev S16384 : Shape := ⟨1, ![16384]⟩
abbrev S16384x1 : Shape := ⟨2, ![16384, 1]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x768, .f32⟩
  | .hbm, ⟨3, _⟩ => ⟨S16384x2048, .f32⟩
  | .hbm, ⟨4, _⟩ => ⟨S2048x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S2048, .f32⟩
  | .hbm, ⟨9, _⟩ => ⟨S2048, .f32⟩
  | .hbm, ⟨10, _⟩ => ⟨S2048x16, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S1x1x2048, .f32⟩
  | .hbm, ⟨17, _⟩ => ⟨S1x2048, .f32⟩
  | .hbm, ⟨18, _⟩ => ⟨S8192x2048, .f32⟩
  | .hbm, ⟨19, _⟩ => ⟨S4x1x2048, .f32⟩
  | .hbm, ⟨20, _⟩ => ⟨S4x2048x2048, .f32⟩
  | .hbm, ⟨21, _⟩ => ⟨S8192x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S1x2048, .f32⟩
  | .hbm, ⟨52, _⟩ => ⟨S16384x2048, .f32⟩
  | .hbm, ⟨53, _⟩ => ⟨S16384x2048, .f32⟩
  | .hbm, ⟨54, _⟩ => ⟨S1x1x2048, .f32⟩
  | .hbm, ⟨55, _⟩ => ⟨S1x2048, .f32⟩
  | .hbm, ⟨56, _⟩ => ⟨S8192x2048, .f32⟩
  | .hbm, ⟨57, _⟩ => ⟨S4x1x2048, .f32⟩
  | .hbm, ⟨58, _⟩ => ⟨S4x2048x2048, .f32⟩
  | .hbm, ⟨59, _⟩ => ⟨S8192x2048, .f32⟩
  | .hbm, ⟨60, _⟩ => ⟨S16384x2048, .f32⟩
  | .hbm, ⟨61, _⟩ => ⟨S_, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S1x1x2048, .f32⟩
  | .hbm, ⟨66, _⟩ => ⟨S1x2048, .f32⟩
  | .hbm, ⟨67, _⟩ => ⟨S8192x2048, .f32⟩
  | .hbm, ⟨68, _⟩ => ⟨S4x1x2048, .f32⟩
  | .hbm, ⟨69, _⟩ => ⟨S4x2048x2048, .f32⟩
  | .hbm, ⟨70, _⟩ => ⟨S8192x2048, .f32⟩
  | .hbm, ⟨71, _⟩ => ⟨S16384x2048, .f32⟩
  | .hbm, ⟨72, _⟩ => ⟨S16384x2048, .f32⟩
  | .hbm, ⟨73, _⟩ => ⟨S16384x2048, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.FfnBlock.lean ====
module

public import proofs.«01_k».proof.Proof.Gen.FfnIdeal.Skeleton
public import Idealize.ShloMosaic.Lib.Tactic
public import Idealize.ShloMosaic.Lib.Pointwise
public import Idealize.ShloMosaic.Lib.MatmulPlain
public import Idealize.ShloMosaic.PureOps.Ideal

@[expose] public section

set_option maxRecDepth 16384

noncomputable section

namespace Cert.FfnIdeal.Hand

open Cert.FfnIdeal Cert.FfnIdeal.Gen Idealize.ShloMosaic

/-- The gated unit: x times the logistic of x, times the second projection. -/
def unit (g u : EReal) : EReal := g * (Ideal.div 1 (1 + Ideal.exp (-g))) * u

/-- One column block's product: the sum over its 256 hidden units. -/
theorem pay39_apply (v0 : Vec Ideal S1x1024x2048 .bf16) (v2 v6 : Vec Ideal S1x1x2048x256 .f32)
    (v20 : Vec Ideal S1x1x256x2048 .f32) (r : Fin 1024) (c : Fin 2048) :
    k0_pay39 (F := Ideal) v0 v2 v6 v20 (ix2 r c)
      = ∑ k : Fin 256, unit (∑ d : Fin 2048, v0 (ix3 0 r d) * v2 (ix4 0 0 d k)) (∑ d : Fin 2048, v0 (ix3 0 r d) * v6 (ix4 0 0 d k))
          * v20 (ix4 0 0 k c) := by
  unfold k0_pay39
  simp only [pointwise]
  simp [unit, sub_eq_add_neg]

/-- The gate column: the lane named by the word, read by masking the other lanes and summing. -/
theorem pay5_apply (e : BitVec 32) (v : Vec Ideal S1x1024x128 .f32) (r : Fin 1024) (z : Fin 1) (l : Fin 128) (hl : e = BitVec.ofNat 32 l.val) :
    k0_pay5 (F := Ideal) e v (ix2 r z) = v (ix3 0 r l) := by
  unfold k0_pay5
  simp only [pointwise]
  rw [Finset.sum_eq_single l]
  · subst hl; simp [Scalar.select, IntOp.cmpi]
  · intro k _ hk
    subst hl
    have hne : k.val ≠ l.val := fun h => hk (Fin.ext h)
    have hk' := k.isLt
    have hl' := l.isLt
    have hw : ¬ BitVec.ofNat 32 k.val = BitVec.ofNat 32 l.val := fun h => hne (by
      have := congrArg BitVec.toNat h
      simp only [BitVec.toNat_ofNat] at this
      omega)
    have hb : (BitVec.ofNat 32 k.val == BitVec.ofNat 32 l.val) = false := by simpa using hw
    simp [Scalar.select, IntOp.cmpi, hb]
  · simp

end Cert.FfnIdeal.Hand
-- ==== Proof.FfnValue.lean ====
module

public import proofs.«01_k».proof.Proof.FfnBlock
public import proofs.«01_k».proof.Proof.Gen.FfnIdeal.Frame
public import proofs.«01_k».proof.Proof.Gen.FfnIdeal.Value
public import Idealize.ShloMosaic.Lib.Pipeline.ValueKit.Tiles

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Case A (first block of an expert) leaves the block's product in the accumulator. -/
theorem sout_A (c : Dev nD) (i : grid0.Coords) (arg2 : Memref sig .tc .vmem S1x1024x2048 .bf16) (harg2 : arg2.IsWhole) (arg3 : Memref sig .tc .vmem S1x1x2048x256 .f32) (harg3 : arg3.IsWhole) (arg4 : Memref sig .tc .vmem S1x1x2048x256 .f32) (harg4 : arg4.IsWhole) (arg5 : Memref sig .tc .vmem S1x1x256x2048 .f32) (harg5 : arg5.IsWhole) (arg6 : Memref sig .tc .vmem S1x1024x128 .f32) (harg6 : arg6.IsWhole) (arg7 : Memref sig .tc .vmem S32x32x2048 .bf16) (harg7 : arg7.IsWhole) (arg8 : Memref sig .tc .vmem S1024x2048 .f32) (harg8 : arg8.IsWhole) (hc0 : cond0_0 i) (hc1 : ¬cond0_1 i) (hc2 : ¬cond0_2 i)
    (x0 : Vec F S1x1024x2048 .bf16) (x1 : Vec F S1x1x2048x256 .f32) (x2 : Vec F S1x1x2048x256 .f32) (x3 : Vec F S1x1x256x2048 .f32) (x4 : Vec F S1x1024x128 .f32) :
    sout0_A_0 c i arg2 harg2 arg3 harg3 arg4 harg4 arg5 harg5 arg6 harg6 arg7 harg7 arg8 harg8 hc0 hc1 hc2 x0 x1 x2 x3 x4 = k0_pay39 x0 x1 x2 x3 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3 x4)]
  unfold kernelRun0_A
  dsimp only
  rw [View.canon_unit_zero hz2]
  unfold k0_pay40
  simp only [View.readAt_eq_ld, harg2.read_unread, harg3.read_unread, harg4.read_unread, harg5.read_unread, View.ld_unit_zero (S := S1x1024x2048) hz3, View.ld_unit_zero (S := S1x1x2048x256) hz4, View.ld_unit_zero (S := S1x1x256x2048) hz4, shapeCast_self]

/-- Case B (a middle block) adds the block's product to the accumulator. -/
theorem sout_B (c : Dev nD) (i : grid0.Coords) (arg2 : Memref sig .tc .vmem S1x1024x2048 .bf16) (harg2 : arg2.IsWhole) (arg3 : Memref sig .tc .vmem S1x1x2048x256 .f32) (harg3 : arg3.IsWhole) (arg4 : Memref sig .tc .vmem S1x1x2048x256 .f32) (harg4 : arg4.IsWhole) (arg5 : Memref sig .tc .vmem S1x1x256x2048 .f32) (harg5 : arg5.IsWhole) (arg6 : Memref sig .tc .vmem S1x1024x128 .f32) (harg6 : arg6.IsWhole) (arg7 : Memref sig .tc .vmem S32x32x2048 .bf16) (harg7 : arg7.IsWhole) (arg8 : Memref sig .tc .vmem S1024x2048 .f32) (harg8 : arg8.IsWhole) (hc0 : ¬cond0_0 i) (hc1 : cond0_1 i) (hc2 : ¬cond0_2 i)
    (x0 : Vec F S1x1024x2048 .bf16) (x1 : Vec F S1x1x2048x256 .f32) (x2 : Vec F S1x1x2048x256 .f32) (x3 : Vec F S1x1x256x2048 .f32) (x4 : Vec F S1x1024x128 .f32) (xs0 : Vec F S1024x2048 .f32) :
    sout0_B_0 c i arg2 harg2 arg3 harg3 arg4 harg4 arg5 harg5 arg6 harg6 arg7 harg7 arg8 harg8 hc0 hc1 hc2 x0 x1 x2 x3 x4 xs0 = addf xs0 (k0_pay39 x0 x1 x2 x3) := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 x3 x4 xs0)]
  unfold kernelRun0_B
  dsimp only
  rw [View.canon_unit_zero hz2]
  unfold k0_pay41
  simp only [View.readAt_eq_ld, harg2.read_unread, harg3.read_unread, harg4.read_unread, harg5.read_unread, harg8.read_unread, View.ld_unit_zero (S := S1x1024x2048) hz3, View.ld_unit_zero (S := S1x1x2048x256) hz4, View.ld_unit_zero (S := S1x1x256x2048) hz4, View.ld_unit_zero (S := S1024x2048) hz2, shapeCast_self]

/-- Case C (the last block of an expert) stores, for every sample `s`, rows `32 s …` of the finished accumulator scaled by
    the gate column. -/
theorem out_C (c : Dev nD) (i : grid0.Coords) (arg2 : Memref sig .tc .vmem S1x1024x2048 .bf16) (harg2 : arg2.IsWhole) (arg3 : Memref sig .tc .vmem S1x1x2048x256 .f32) (harg3 : arg3.IsWhole) (arg4 : Memref sig .tc .vmem S1x1x2048x256 .f32) (harg4 : arg4.IsWhole) (arg5 : Memref sig .tc .vmem S1x1x256x2048 .f32) (harg5 : arg5.IsWhole) (arg6 : Memref sig .tc .vmem S1x1024x128 .f32) (harg6 : arg6.IsWhole) (arg7 : Memref sig .tc .vmem S32x32x2048 .bf16) (harg7 : arg7.IsWhole) (arg8 : Memref sig .tc .vmem S1024x2048 .f32) (harg8 : arg8.IsWhole) (hc0 : ¬cond0_0 i) (hc1 : cond0_1 i) (hc2 : cond0_2 i)
    (x0 : Vec F S1x1024x2048 .bf16) (x1 : Vec F S1x1x2048x256 .f32) (x2 : Vec F S1x1x2048x256 .f32) (x3 : Vec F S1x1x256x2048 .f32) (x4 : Vec F S1x1024x128 .f32) (xs0 : Vec F S1024x2048 .f32)
    (s : Fin 32) (p : Fin 32) (d : Fin 2048) (r : Fin 1024) (hr : r.val = 32 * s.val + p.val) :
    out0_C_5 c i arg2 harg2 arg3 harg3 arg4 harg4 arg5 harg5 arg6 harg6 arg7 harg7 arg8 harg8 hc0 hc1 hc2 x0 x1 x2 x3 x4 xs0 (ix3 s p d)
      = FloatOps.truncf (F := F) (φ := .f32) (ψ := .bf16) bitsLt_bf16_f32 (FloatOps.mulf (addf xs0 (k0_pay39 x0 x1 x2 x3) (ix2 r d)) (k0_pay5 (BitVec.ofNat 32 (i 0).val) x4 (ix2 r 0))) := by
  unfold out0_C_5
  rw [View.read_writes_eq_canon _ _ _ (cover0_C_5 c i arg2 harg2 arg3 harg3 arg4 harg4 arg5 harg5 arg6 harg6 arg7 harg7 arg8 harg8 hc0 hc1 hc2 x0 x1 x2 x3 x4 xs0)]
  unfold kernelRun0_C
  dsimp only
  sl_unfold_words
  have hread : ∀ B : LoadRect S1024x2048, arg8.view.readCov [(⟨Rect.unit ![0, 0] S1024x2048.size inb_S1024x2048_S1024x2048_0_0, k0_pay41 x0 x1 x2 x3 xs0⟩ : View.Piece (Elt F) S1024x2048 .f32)] B
      = fun j => addf xs0 (k0_pay39 x0 x1 x2 x3) (B.idx j) := by
    intro B
    rw [View.readCov_eq_canon', View.canon_unit_zero hz2]
    unfold k0_pay41
    simp only [shapeCast_self]
  simp only [View.readAt_eq_ld, harg2.read_unread, harg3.read_unread, harg4.read_unread, harg5.read_unread, harg6.read_unread, harg8.read_unread, View.ld_unit_zero (S := S1x1024x2048) hz3, View.ld_unit_zero (S := S1x1x2048x256) hz4, View.ld_unit_zero (S := S1x1x256x2048) hz4, View.ld_unit_zero (S := S1024x2048) hz2, View.ld_unit_zero (S := S1x1024x128) hz3, hread]
  generalize addf xs0 (k0_pay39 x0 x1 x2 x3) = acc
  generalize hgate : k0_pay5 (BitVec.ofNat 32 (i 0).val) x4 = gate
  canon_tiles x h
  all_goals
    idx_vars x
    first | unfold k0_pay6 | unfold k0_pay7 | unfold k0_pay8 | open_payloads
    simp only [pointwise, hgate]
    refine congrArg (FloatOps.truncf _ _) (congrArg₂ FloatOps.mulf (congrArg acc (congrArg₂ ix2 (Fin.ext ?_) (Fin.ext ?_))) (congrArg gate (congrArg₂ ix2 (Fin.ext ?_) rfl))) <;> simp <;> omega

end Cert.FfnIdeal.Hand
-- ==== Proof.FfnFold.lean ====
module

public import proofs.«01_k».proof.Proof.FfnValue

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The five operands as arrays: the gathered rows, the gate rows, the two up projections, the down projection. -/
abbrev aX (c : Dev nD) : Vec Ideal S16x1024x2048 .bf16 := m ((c : Thread nD τ).loc main_arg0)
abbrev aG (c : Dev nD) : Vec Ideal S16x1024x128 .f32 := m ((c : Thread nD τ).loc main_arg1)
abbrev aA (c : Dev nD) : Vec Ideal S2x16x2048x1024 .f32 := m ((c : Thread nD τ).loc main_arg2)
abbrev aB (c : Dev nD) : Vec Ideal S2x16x2048x1024 .f32 := m ((c : Thread nD τ).loc main_arg3)
abbrev aD (c : Dev nD) : Vec Ideal S2x16x1024x2048 .f32 := m ((c : Thread nD τ).loc main_arg4)

/-- Which blocks the five input windows name at a point: expert `t / 4`, column block `t % 4`. -/
theorem idx_in : ∀ t : Fin cfg0.N,
    (win0_0.index t 0 = t.val / 4 ∧ win0_0.index t 1 = 0 ∧ win0_0.index t 2 = 0)
    ∧ (win0_1.index t 0 = 0 ∧ win0_1.index t 1 = t.val / 4 ∧ win0_1.index t 2 = 0 ∧ win0_1.index t 3 = t.val % 4)
    ∧ (win0_2.index t 0 = 0 ∧ win0_2.index t 1 = t.val / 4 ∧ win0_2.index t 2 = 0 ∧ win0_2.index t 3 = t.val % 4)
    ∧ (win0_3.index t 0 = 0 ∧ win0_3.index t 1 = t.val / 4 ∧ win0_3.index t 2 = t.val % 4 ∧ win0_3.index t 3 = 0)
    ∧ (win0_4.index t 0 = t.val / 4 ∧ win0_4.index t 1 = 0 ∧ win0_4.index t 2 = 0)
    ∧ ((grid0.coords t 0).val = t.val / 4) :=
  (by decide +kernel : ∀ t : Fin grid0.N, _)

/-- The gathered rows' block at a point, at an index. -/
theorem blk0 (c : Dev nD) (t : Fin cfg0.N) (z : Fin 1) (r : Fin 1024) (d : Fin 2048) (e : Fin 16) (he : e.val = t.val / 4) :
    (iblk m c 0 t : Vec Ideal S1x1024x2048 .bf16) (ix3 z r d) = aX m c (ix3 e r d) := by
  obtain ⟨h, -⟩ := idx_in t
  unfold iblk
  rw [View.read_apply]
  show V m c main_arg0 _ = m (c.tc.loc main_arg0) _
  unfold V
  congr 1
  funext a
  apply Fin.ext
  match a with
  | ⟨0, _⟩ => show win0_0.index t 0 * 1 + 1 * z.val = e.val; omega
  | ⟨1, _⟩ => show win0_0.index t 1 * 1024 + 1 * r.val = r.val; omega
  | ⟨2, _⟩ => show win0_0.index t 2 * 2048 + 1 * d.val = d.val; omega

/-- The first up projection's block at a point, at an index. -/
theorem blk1 (c : Dev nD) (t : Fin cfg0.N) (y z : Fin 1) (d : Fin 2048) (k : Fin 256) (e : Fin 16) (he : e.val = t.val / 4)
    (q : Fin 1024) (hq : q.val = 256 * (t.val % 4) + k.val) :
    (iblk m c 1 t : Vec Ideal S1x1x2048x256 .f32) (ix4 y z d k) = aA m c (ix4 0 e d q) := by
  obtain ⟨-, h, -⟩ := idx_in t
  unfold iblk
  rw [View.read_apply]
  show V m c main_arg2 _ = m (c.tc.loc main_arg2) _
  unfold V
  congr 1
  funext a
  apply Fin.ext
  match a with
  | ⟨0, _⟩ => show win0_1.index t 0 * 1 + 1 * y.val = 0; omega
  | ⟨1, _⟩ => show win0_1.index t 1 * 1 + 1 * z.val = e.val; omega
  | ⟨2, _⟩ => show win0_1.index t 2 * 2048 + 1 * d.val = d.val; omega
  | ⟨3, _⟩ => show win0_1.index t 3 * 256 + 1 * k.val = q.val; omega

/-- The second up projection's block at a point, at an index. -/
theorem blk2 (c : Dev nD) (t : Fin cfg0.N) (y z : Fin 1) (d : Fin 2048) (k : Fin 256) (e : Fin 16) (he : e.val = t.val / 4)
    (q : Fin 1024) (hq : q.val = 256 * (t.val % 4) + k.val) :
    (iblk m c 2 t : Vec Ideal S1x1x2048x256 .f32) (ix4 y z d k) = aB m c (ix4 0 e d q) := by
  obtain ⟨-, -, h, -⟩ := idx_in t
  unfold iblk
  rw [View.read_apply]
  show V m c main_arg3 _ = m (c.tc.loc main_arg3) _
  unfold V
  congr 1
  funext a
  apply Fin.ext
  match a with
  | ⟨0, _⟩ => show win0_2.index t 0 * 1 + 1 * y.val = 0; omega
  | ⟨1, _⟩ => show win0_2.index t 1 * 1 + 1 * z.val = e.val; omega
  | ⟨2, _⟩ => show win0_2.index t 2 * 2048 + 1 * d.val = d.val; omega
  | ⟨3, _⟩ => show win0_2.index t 3 * 256 + 1 * k.val = q.val; omega

/-- The down projection's block at a point, at an index. -/
theorem blk3 (c : Dev nD) (t : Fin cfg0.N) (y z : Fin 1) (d : Fin 2048) (k : Fin 256) (e : Fin 16) (he : e.val = t.val / 4)
    (q : Fin 1024) (hq : q.val = 256 * (t.val % 4) + k.val) :
    (iblk m c 3 t : Vec Ideal S1x1x256x2048 .f32) (ix4 y z k d) = aD m c (ix4 0 e q d) := by
  obtain ⟨-, -, -, h, -⟩ := idx_in t
  unfold iblk
  rw [View.read_apply]
  show V m c main_arg4 _ = m (c.tc.loc main_arg4) _
  unfold V
  congr 1
  funext a
  apply Fin.ext
  match a with
  | ⟨0, _⟩ => show win0_3.index t 0 * 1 + 1 * y.val = 0; omega
  | ⟨1, _⟩ => show win0_3.index t 1 * 1 + 1 * z.val = e.val; omega
  | ⟨2, _⟩ => show win0_3.index t 2 * 256 + 1 * k.val = q.val; omega
  | ⟨3, _⟩ => show win0_3.index t 3 * 2048 + 1 * d.val = d.val; omega

/-- The gate rows' block at a point, at an index. -/
theorem blk4 (c : Dev nD) (t : Fin cfg0.N) (z : Fin 1) (r : Fin 1024) (l : Fin 128) (e : Fin 16) (he : e.val = t.val / 4) :
    (iblk m c 4 t : Vec Ideal S1x1024x128 .f32) (ix3 z r l) = aG m c (ix3 e r l) := by
  obtain ⟨-, -, -, -, h, -⟩ := idx_in t
  unfold iblk
  rw [View.read_apply]
  show V m c main_arg1 _ = m (c.tc.loc main_arg1) _
  unfold V
  congr 1
  funext a
  apply Fin.ext
  match a with
  | ⟨0, _⟩ => show win0_4.index t 0 * 1 + 1 * z.val = e.val; omega
  | ⟨1, _⟩ => show win0_4.index t 1 * 1024 + 1 * r.val = r.val; omega
  | ⟨2, _⟩ => show win0_4.index t 2 * 128 + 1 * l.val = l.val; omega

/-- One hidden unit's contribution to a row of an expert's result. -/
def term (c : Dev nD) (e : Fin 16) (r : Fin 1024) (d : Fin 2048) (q : Fin 1024) : EReal :=
  unit (∑ k : Fin 2048, aX m c (ix3 e r k) * aA m c (ix4 0 e k q)) (∑ k : Fin 2048, aX m c (ix3 e r k) * aB m c (ix4 0 e k q)) * aD m c (ix4 0 e q d)

/-- The `j`-th block of 256 hidden units. -/
def blockSum (c : Dev nD) (e : Fin 16) (r : Fin 1024) (d : Fin 2048) (j : Fin 4) : EReal :=
  ∑ k : Fin 256, term m c e r d ⟨256 * j.val + k.val, by omega⟩

/-- The block's product at a point. -/
abbrev prod (c : Dev nD) (t : Fin cfg0.N) : FVec Ideal S1024x2048 .f32 := k0_pay39 (F := Ideal) (iblk m c 0 t) (iblk m c 1 t) (iblk m c 2 t) (iblk m c 3 t)

theorem prod_apply (c : Dev nD) (t : Fin cfg0.N) (e : Fin 16) (he : e.val = t.val / 4) (j : Fin 4) (hj : j.val = t.val % 4) (r : Fin 1024) (d : Fin 2048) :
    prod m c t (ix2 r d) = blockSum m c e r d j := by
  unfold prod
  rw [pay39_apply]
  unfold blockSum term
  refine Finset.sum_congr rfl fun k _ => ?_
  have hq : (⟨256 * j.val + k.val, by omega⟩ : Fin 1024).val = 256 * (t.val % 4) + k.val := by rw [← hj]
  rw [blk3 m c t 0 0 d k e he _ hq]
  simp only [blk0 m c t 0 r _ e he, blk1 m c t 0 0 _ k e he _ hq, blk2 m c t 0 0 _ k e he _ hq]

/-- The accumulator after the first block of an expert. -/
theorem acc_A (c : Dev nD) (n : ℕ) (hn : n < cfg0.N) (h : n % 4 = 0) : (outsAt0 m c n hn).2 = prod m c ⟨n, hn⟩ := by
  rw [outsAt0_A m c ⟨n, hn⟩ h (by show ¬ 1 ≤ n % 4; omega) (by show ¬ n % 4 = 3; omega)]
  dsimp only
  exact sout_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) _ _ _ (iblk m c 0 ⟨n, hn⟩) (iblk m c 1 ⟨n, hn⟩) (iblk m c 2 ⟨n, hn⟩) (iblk m c 3 ⟨n, hn⟩) (iblk m c 4 ⟨n, hn⟩)

/-- The accumulator after a middle block. -/
theorem acc_B (c : Dev nD) (n : ℕ) (hn : n + 1 < cfg0.N) (h0 : ¬ (n + 1) % 4 = 0) (h2 : ¬ (n + 1) % 4 = 3) :
    (outsAt0 m c (n + 1) hn).2 = addf (outsAt0 m c n (Nat.lt_of_succ_lt hn)).2 (prod m c ⟨n + 1, hn⟩) := by
  rw [outsAt0_B m c ⟨n + 1, hn⟩ h0 (by show 1 ≤ (n + 1) % 4; omega) h2]
  dsimp only
  exact sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _

/-- What the last block of an expert stores. -/
theorem out_last (c : Dev nD) (n : ℕ) (hn : n + 1 < cfg0.N) (h2 : (n + 1) % 4 = 3) (s p : Fin 32) (d : Fin 2048) (r : Fin 1024) (hr : r.val = 32 * s.val + p.val) :
    (outsAt0 m c (n + 1) hn).1 (ix3 s p d)
      = (addf (outsAt0 m c n (Nat.lt_of_succ_lt hn)).2 (prod m c ⟨n + 1, hn⟩) (ix2 r d) : EReal)
          * k0_pay5 (F := Ideal) (BitVec.ofNat 32 (grid0.coords ⟨n + 1, hn⟩ 0).val) (iblk m c 4 ⟨n + 1, hn⟩) (ix2 r 0) := by
  rw [outsAt0_C m c ⟨n + 1, hn⟩ (by show ¬ (n + 1) % 4 = 0; omega) (by show 1 ≤ (n + 1) % 4; omega) h2]
  dsimp only
  exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _ s p d r hr

/-- Four blocks of 256 are the 1024 hidden units. -/
theorem sum_blocks (f : Fin 1024 → EReal) :
    (∑ j : Fin 4, ∑ k : Fin 256, f ⟨256 * j.val + k.val, by omega⟩) = ∑ q : Fin 1024, f q := by
  rw [← Fintype.sum_prod_type']
  refine Fintype.sum_equiv (finProdFinEquiv (m := 4) (n := 256)) _ _ fun x => congrArg f (Fin.ext ?_)
  show 256 * x.1.val + x.2.val = x.2.val + 256 * x.1.val
  omega

/-- The array the kernel ends with, at an index. -/
theorem G5_apply (c : Dev nD) (s : Fin 32) (q : Fin 512) (d : Fin 2048) (e : Fin 16) (r : Fin 1024)
    (he : e.val = q.val / 32) (hr : r.val = 32 * s.val + q.val % 32) :
    (Value.G5 m c : Vec Ideal S32x512x2048 .bf16) (ix3 s q d)
      = (∑ k : Fin 1024, term m c e r d k) * aG m c (ix3 e r ⟨e.val, by omega⟩) := by
  have hN : cfg0.N = 64 := N_0
  have hs := s.isLt
  have hd := d.isLt
  have hpt : Value.pt5Of (ix3 s q d) = 4 * e.val + 3 := by
    show 4 * (16 * (s.val / 32 - 0) + 1 * (q.val / 32 - 0) + 1 * (d.val / 2048 - 0)) + 3 = _
    omega
  have hlt : 4 * e.val + 2 + 1 < cfg0.N := by omega
  have hloc : Value.loc5Of (ix3 s q d) = (ix3 s (⟨q.val % 32, by omega⟩ : Fin 32) d : S32x32x2048.Idx) := by
    funext a
    apply Fin.ext
    match a with
    | ⟨0, _⟩ => show s.val % 32 = s.val; omega
    | ⟨1, _⟩ => rfl
    | ⟨2, _⟩ => show d.val % 2048 = d.val; omega
  have hG : (Value.G5 m c : Vec Ideal S32x512x2048 .bf16) (ix3 s q d) = (outsAt0 m c (4 * e.val + 2 + 1) hlt).1 (ix3 s (⟨q.val % 32, by omega⟩ : Fin 32) d) := by
    unfold Value.G5
    rw [dif_pos (show Value.pt5Of (ix3 s q d) < cfg0.N by omega), Value.outsAt0_sweep, Value.fold0_congr m c _ _ (4 * e.val + 2 + 1) (by omega) hpt, hloc]
  rw [hG, out_last m c _ hlt (by omega) s _ d r hr,
    pay5_apply _ _ r 0 ⟨e.val, by omega⟩ (congrArg _ ((idx_in ⟨_, hlt⟩).2.2.2.2.2.trans (by show (4 * e.val + 2 + 1) / 4 = e.val; omega))),
    blk4 m c _ 0 r _ e (by show e.val = (4 * e.val + 2 + 1) / 4; omega)]
  congr 1
  rw [← sum_blocks (term m c e r d), Fin.sum_univ_four]
  rw [acc_B m c (4 * e.val + 1) (by omega) (by omega) (by omega), acc_B m c (4 * e.val) (by omega) (by omega) (by omega), acc_A m c (4 * e.val) (by omega) (by omega)]
  show prod m c _ (ix2 r d) + prod m c _ (ix2 r d) + prod m c _ (ix2 r d) + prod m c _ (ix2 r d) = _
  rw [prod_apply m c ⟨4 * e.val, _⟩ e (by show _ = 4 * e.val / 4; omega) 0 (by show 0 = 4 * e.val % 4; omega),
    prod_apply m c ⟨4 * e.val + 1, _⟩ e (by show _ = (4 * e.val + 1) / 4; omega) 1 (by show 1 = (4 * e.val + 1) % 4; omega),
    prod_apply m c ⟨4 * e.val + 1 + 1, _⟩ e (by show _ = (4 * e.val + 1 + 1) / 4; omega) 2 (by show 2 = (4 * e.val + 1 + 1) % 4; omega),
    prod_apply m c ⟨4 * e.val + 2 + 1, _⟩ e (by show _ = (4 * e.val + 2 + 1) / 4; omega) 3 (by show 3 = (4 * e.val + 2 + 1) % 4; omega)]
  rfl

end Cert.FfnIdeal.Hand
-- ==== Proof.FfnRefAt.lean ====
module

public import proofs.«01_k».proof.Proof.Gen.FfnRefIdeal.Run
public import Idealize.ShloMosaic.Lib.Tactic
public import Idealize.ShloMosaic.Lib.Pointwise
public import Idealize.ShloMosaic.Lib.StackMember
public import Idealize.ShloMosaic.Lib.Pipeline.ValueKit.Tiles
public import Idealize.ShloMosaic.PureOps.Ideal

@[expose] public section

set_option maxRecDepth 16384

noncomputable section

namespace Cert.FfnRefIdeal.Hand

open Cert.FfnRefIdeal Cert.FfnRefIdeal.Gen Cert.FfnRefIdeal.Value Idealize.ShloMosaic Idealize.ShloMosaic.TcCoe Idealize.SL.Sem

variable (m : (ℓ : Loc nD τ sig) → Buf (Elt Ideal) ℓ)

/-- The gated unit: x times the logistic of x, times the second projection. -/
def unit (g u : EReal) : EReal := g * (Ideal.div 1 (1 + Ideal.exp (-g))) * u

/-- The hidden activations of all experts, as the reference computes them. -/
def hidden (x : FVec Ideal S16x1024x2048 .bf16) (wg wu : FVec Ideal S2x16x2048x1024 .f32) : FVec Ideal S16x1024x1024 .f32 :=
  (mulf (mulf (Host.dotGeneral dot_S16x1024x2048_S16x2048x1024_S16x1024x1024_2_1_1_2_0_0 none (extf .f32 x bitsLt_bf16_f32) (shapeCast _ (extractStridedSlice S1x16x2048x1024 ![0, 0, 0, 0] wg slices_S2x16x2048x1024_S1x16x2048x1024_0_0_0_0) shapeCasts_S1x16x2048x1024_S16x2048x1024)) (Host.divf (broadcastInDim S16x1024x1024 ![] bcast_S_S16x1024x1024 (constant S_ .f32 0x3F800000#32)) (addf (broadcastInDim S16x1024x1024 ![] bcast_S_S16x1024x1024 (constant S_ .f32 0x3F800000#32)) (Host.exp (Host.negf (Host.dotGeneral dot_S16x1024x2048_S16x2048x1024_S16x1024x1024_2_1_1_2_0_0 none (extf .f32 x bitsLt_bf16_f32) (shapeCast _ (extractStridedSlice S1x16x2048x1024 ![0, 0, 0, 0] wg slices_S2x16x2048x1024_S1x16x2048x1024_0_0_0_0) shapeCasts_S1x16x2048x1024_S16x2048x1024))))))) (Host.dotGeneral dot_S16x1024x2048_S16x2048x1024_S16x1024x1024_2_1_1_2_0_0 none (extf .f32 x bitsLt_bf16_f32) (shapeCast _ (extractStridedSlice S1x16x2048x1024 ![0, 0, 0, 0] wu slices_S2x16x2048x1024_S1x16x2048x1024_0_0_0_0) shapeCasts_S1x16x2048x1024_S16x2048x1024)))

/-- The activation of expert `e` at row `r`, unit `k`: the gated unit of the two row products. -/
theorem hidden_apply (x : FVec Ideal S16x1024x2048 .bf16) (wg wu : FVec Ideal S2x16x2048x1024 .f32) (e : Fin 16) (r k : Fin 1024) :
    hidden x wg wu (ix3 e r k) = unit (∑ d : Fin 2048, x (ix3 e r d) * wg (ix4 0 e d k)) (∑ d : Fin 2048, x (ix3 e r d) * wu (ix4 0 e d k)) := by
  unfold hidden
  simp only [pointwise]
  simp [unit]

/-- The whole result over the hidden activations, the third projection and the stacked gates. -/
def whole (h : FVec Ideal S16x1024x1024 .f32) (wd : FVec Ideal S2x16x1024x2048 .f32) (G : FVec Ideal S16x1024 .f32) : FVec Ideal S32x512x2048 .bf16 :=
  truncf .bf16 (shapeCast _ (transpose S32x16x32x2048 [1, 0, 2, 3] (shapeCast _ (mulf (Host.dotGeneral dot_S16x1024x1024_S16x1024x2048_S16x1024x2048_2_1_1_2_0_0 none h (shapeCast _ (extractStridedSlice S1x16x1024x2048 ![0, 0, 0, 0] wd slices_S2x16x1024x2048_S1x16x1024x2048_0_0_0_0) shapeCasts_S1x16x1024x2048_S16x1024x2048)) (broadcastInDim S16x1024x2048 ![0, 1, 2] bcast_S16x1024x1_S16x1024x2048_0_1_2 (broadcastInDim S16x1024x1 ![0, 1] bcast_S16x1024_S16x1024x1_0_1 G))) shapeCasts_S16x1024x2048_S16x32x32x2048) transposes_S16x32x32x2048_S32x16x32x2048_1_0_2_3) shapeCasts_S32x16x32x2048_S32x512x2048) bitsLt_bf16_f32

/-- The result at sample `s`, expert slot `q`, column `d`: the third projection's row product, scaled by the gate. -/
theorem whole_apply (h : FVec Ideal S16x1024x1024 .f32) (wd : FVec Ideal S2x16x1024x2048 .f32) (G : FVec Ideal S16x1024 .f32)
    (s : Fin 32) (q : Fin 512) (d : Fin 2048) (e : Fin 16) (r : Fin 1024) (he : e.val = q.val / 32) (hr : r.val = 32 * s.val + q.val % 32) :
    whole h wd G (ix3 s q d) = (∑ k : Fin 1024, h (ix3 e r k) * wd (ix4 0 e k d)) * G (ix2 e r) := by
  unfold whole
  simp only [pointwise]
  have h1 : q.val / 32 < 16 := by have := q.isLt; omega
  have h2 : s.val * 32 + q.val % 32 < 1024 := by have := s.isLt; omega
  obtain rfl : e = ⟨q.val / 32, h1⟩ := Fin.ext he
  obtain rfl : r = ⟨s.val * 32 + q.val % 32, h2⟩ := Fin.ext (by rw [hr]; show _ = s.val * 32 + q.val % 32; omega)
  simp

/-- The reference's result is `whole` of `hidden` and the diagonal of the gates. -/
theorem res_eq (c : Dev nD) : ∃ G : FVec Ideal S16x1024 .f32,
    (∀ (e : Fin 16) (r : Fin 1024), G (ix2 e r) = (m ((c.tc : Thread nD τ).loc main_arg1) : FVec Ideal S16x1024x128 .f32) (ix3 e r ⟨e.val, by omega⟩))
    ∧ res_main_v67 (F := Ideal) m c = whole (hidden (m ((c.tc : Thread nD τ).loc main_arg0)) (m ((c.tc : Thread nD τ).loc main_arg2)) (m ((c.tc : Thread nD τ).loc main_arg3))) (m ((c.tc : Thread nD τ).loc main_arg4)) G := by
  refine ⟨?G, ?h, ?eq⟩
  case eq => exact rfl
  case h =>
    intro e r
    generalize (m ((c.tc : Thread nD τ).loc main_arg1)) = g
    concat_tiles i h
    all_goals (idx_vars i; simp only [pointwise])
    all_goals
      refine congrArg g ?_
      have hr : i1 = r := Fin.ext h1
      subst hr
      refine congr (congr (congrArg ix3 (Fin.ext (by simp [h]))) (Fin.ext (by simp))) (Fin.ext (by simp [h]))

end Cert.FfnRefIdeal.Hand
-- ==== Proof.FfnClaims.lean ====
module

public import proofs.«01_k».proof.Defs
public import proofs.«01_k».proof.Proof.FfnFold
public import proofs.«01_k».proof.Proof.FfnRefAt
public import proofs.«01_k».proof.Proof.Gen.Ffn.Frame
public import proofs.«01_k».proof.Proof.Gen.FfnRefIdeal.Run
public import Idealize.ShloMosaic.Adequacy
public import Idealize.ShloMosaic.Init

@[expose] public section

set_option maxRecDepth 16384

noncomputable section

namespace Cert.Proof.FfnClaims

open Idealize.ShloMosaic Idealize.ShloMosaic.TcCoe Idealize.SL.Sem

/-- The kernel's program ends, keeps its arguments and leaves every semaphore at zero. -/
theorem frame : Cert.quiescent_Ffn := fun m ρ _ => Cert.Ffn.Gen.frame m ρ
/-- The same of its ideal form. -/
theorem frame_ideal : Cert.quiescent_FfnIdeal := fun m ρ _ => Cert.FfnIdeal.Gen.frame m ρ
/-- The same of the reference's ideal form, from its run. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)
/-- Nothing was rewritten between the kernel and its ideal form. -/
theorem preserves : Cert.preserves_Ffn_FfnIdeal := trivial

/-- From arguments that agree the kernel's array and the reference's array hold the same numbers: at every sample, slot and
    coordinate, the gated sum over the 1024 hidden units. -/
theorem arrays_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    (Cert.FfnRefIdeal.Value.res_main_v67 m' c : Vec Ideal Cert.FfnIdeal.S32x512x2048 .bf16) = Cert.FfnIdeal.Value.G5 m c := by
  obtain ⟨G, hG, hres⟩ := Cert.FfnRefIdeal.Hand.res_eq m' c
  rw [hres, h0, h2, h3, h4]
  funext i
  idx_vars i
  have hq := i1.isLt
  have hs := i0.isLt
  have he : i1.val / 32 < 16 := by omega
  have hr : 32 * i0.val + i1.val % 32 < 1024 := by omega
  refine (Cert.FfnRefIdeal.Hand.whole_apply _ _ G i0 i1 i2 ⟨_, he⟩ ⟨_, hr⟩ rfl rfl).trans ?_
  refine Eq.trans ?_ (Cert.FfnIdeal.Hand.G5_apply m c i0 i1 i2 ⟨_, he⟩ ⟨_, hr⟩ rfl rfl).symm
  rw [hG, h1]
  refine congrArg (· * _) (Finset.sum_congr rfl fun k _ => ?_)
  rw [Cert.FfnRefIdeal.Hand.hidden_apply]
  rfl

/-- The kernel's ideal form and the reference's ideal form leave the same array. -/
theorem algebraic : Cert.algebraic_FfnIdeal_FfnRefIdeal := fun m ρ m' ρ' _ hag =>
  ⟨fun c => Cert.FfnIdeal.Value.G5 m c, Cert.FfnIdeal.Value.run (F := Ideal) m ρ,
    (θ_run Cert.FfnRefIdeal.defs _ _).mono
      (fun _ h c => ⟨(h c).1.trans (arrays_eq m m' c (hag c).1 (hag c).2.1 (hag c).2.2.1 (hag c).2.2.2.1 (hag c).2.2.2.2), (h c).2⟩)
      (Cert.FfnRefIdeal.Value.run (F := Ideal) m' ρ')⟩

end Cert.Proof.FfnClaims

end
-- ==== Proof.Rank.lean ====
module

public import Idealize.ShloMosaic.Lib.SortPrefix
public import Idealize.ShloMosaic.PureOps.Ideal.Laws

@[expose] public section

noncomputable section

namespace Cert.Proof.Rank

open Idealize.ShloMosaic

variable {n : ℕ} (f : Fin n → EReal)

/-- Position `u` stands before position `t`: its entry is greater, or the entries are equal and `u` is earlier. -/
def Before (u t : Fin n) : Prop := f t < f u ∨ (u < t ∧ f u = f t)

open scoped Classical in
/-- How many positions stand before `t`. -/
def rank (t : Fin n) : ℕ := (Finset.univ.filter fun u => Before f u t).card

open scoped Classical in
/-- The order as a truth value. -/
def before (u t : Fin n) : Bool := decide (Before f u t)

/-- The truth value says what the order says. -/
theorem before_iff (u t : Fin n) : before f u t = true ↔ (f t < f u ∨ (u < t ∧ f u = f t)) := by
  unfold before Before; simp only [decide_eq_true_eq]

/-- The order is a strict total order. -/
theorem before_strict : StrictTotalBefore (before f) where
  irrefl a := by rw [← Bool.not_eq_true, before_iff]; simp
  trans a b c := by
    rw [before_iff, before_iff, before_iff]
    rintro (h | ⟨h, e⟩) (h' | ⟨h', e'⟩)
    · exact Or.inl (h'.trans h)
    · exact Or.inl (e' ▸ h)
    · exact Or.inl (e ▸ h')
    · exact Or.inr ⟨h.trans h', e.trans e'⟩
  total a b hne := by
    rw [before_iff, before_iff]
    rcases lt_trichotomy (f a) (f b) with h | h | h
    · exact Or.inr (Or.inl h)
    · rcases lt_or_gt_of_ne hne with h' | h'
      · exact Or.inl (Or.inr ⟨h', h⟩)
      · exact Or.inr (Or.inr ⟨h', h.symm⟩)
    · exact Or.inl (Or.inl h)

/-- A stable sort that asks only whether an entry is greater is the sort by the strict total order, on a list whose
positions stand in order. -/
theorem stableSort_gt (R : Fin n → Fin n → Bool) (hR : ∀ a b, R a b = decide (f b < f a)) (l : List (Fin n))
    (hl : l.Pairwise (· < ·)) : stableSort R l = stableSort (before f) l := by
  induction l with
  | nil => rfl
  | cons a l ih =>
    rw [List.pairwise_cons] at hl
    unfold stableSort
    rw [ih hl.2]
    refine insertBefore_congr R (before f) a _ fun b hb => ?_
    have hab : a < b := hl.1 b ((perm_stableSort (before f) l).mem_iff.mp hb)
    rw [hR]
    have : ¬ (b < a ∧ f b = f a) := fun h => absurd (h.1.trans hab) (lt_irrefl _)
    rw [Bool.eq_iff_iff, before_iff]
    simp [this]

/-- The position a stable descending sort puts at place `k` has exactly `k` positions before it. -/
theorem rank_sortedFrom (R : Fin n → Fin n → Bool) (hR : ∀ a b, R a b = decide (f b < f a)) (k : Fin n) :
    rank f (sortedFrom R k) = k.val := by
  have hs : sortedFrom R = sortedFrom (before f) := by
    funext k
    unfold sortedFrom
    rw [List.get_of_eq (show sortPositions n R = sortPositions n (before f) from
      stableSort_gt f R hR _ (List.pairwise_lt_finRange n))]
    rfl
  rw [hs]
  have hB := before_strict f
  have hno : ∀ i j : Fin n, i < j → before f (sortedFrom (before f) j) (sortedFrom (before f) i) = false :=
    fun i j h => sortedFrom_noInversion (before f) (before f) (fun a b h => hB.asymm a b h) (fun _ _ h => h)
      hB.negTrans i j h
  have hinj := sortedFrom_injective (before f)
  have hiff : ∀ i j : Fin n, Before f (sortedFrom (before f) i) (sortedFrom (before f) j) ↔ i < j := by
    intro i j
    constructor
    · intro h
      by_contra hn
      rcases lt_or_eq_of_le (not_lt.mp hn) with h' | h'
      · have := hno j i h'; simp [before, h] at this
      · subst h'; have := hB.irrefl (sortedFrom (before f) j); simp [before, h] at this
    · intro h
      rcases hB.total (sortedFrom (before f) i) (sortedFrom (before f) j) (fun e => absurd (hinj e) (ne_of_lt h)) with h' | h'
      · simpa [before] using h'
      · rw [hno i j h] at h'; exact absurd h' (by decide)
  unfold rank
  classical
  have himg : (Finset.univ.filter fun u => Before f u (sortedFrom (before f) k))
      = (Finset.univ.filter fun i : Fin n => i < k).image (sortedFrom (before f)) := by
    ext u
    obtain ⟨i, rfl⟩ := sortedFrom_surjective (before f) u
    simp only [Finset.mem_filter, Finset.mem_univ, true_and, Finset.mem_image]
    rw [hiff]
    exact ⟨fun h => ⟨i, h, rfl⟩, fun ⟨j, hj, e⟩ => hinj e ▸ hj⟩
  rw [himg, Finset.card_image_of_injective _ hinj]
  have : (Finset.univ.filter fun i : Fin n => i < k) = Finset.Iio k := by ext; simp
  rw [this, Fin.card_Iio]

/-- Every position has its own count. -/
theorem rank_injective : Function.Injective (rank f) := by
  intro a b h
  obtain ⟨i, rfl⟩ := sortedFrom_surjective (fun a b => decide (f b < f a)) a
  obtain ⟨j, rfl⟩ := sortedFrom_surjective (fun a b => decide (f b < f a)) b
  rw [rank_sortedFrom f _ (fun _ _ => rfl), rank_sortedFrom f _ (fun _ _ => rfl)] at h
  rw [Fin.ext h]

/-- A position's count is below the number of positions. -/
theorem rank_lt (t : Fin n) : rank f t < n := by
  obtain ⟨i, rfl⟩ := sortedFrom_surjective (fun a b => decide (f b < f a)) t
  rw [rank_sortedFrom f _ (fun _ _ => rfl)]
  exact i.isLt

/-- The position with exactly `k` positions before it. -/
def pick (k : Fin n) : Fin n := sortedFrom (fun a b => decide (f b < f a)) k

/-- It has that count. -/
theorem rank_pick (k : Fin n) : rank f (pick f k) = k.val := rank_sortedFrom f _ (fun _ _ => rfl) k

/-- It is the only one with that count. -/
theorem rank_eq_iff (t k : Fin n) : rank f t = k.val ↔ t = pick f k := by
  rw [← rank_pick f k]; exact (rank_injective f).eq_iff

end Cert.Proof.Rank

end
-- ==== Proof.RouterBlock.lean ====
module

public import proofs.«01_k».proof.Proof.Gen.RouteIdeal.Frame
public import proofs.«01_k».proof.Proof.Rank
public import Idealize.ShloMosaic.Lib.Tactic
public import Idealize.ShloMosaic.Lib.Pointwise
public import Idealize.ShloMosaic.PureOps.Ideal

@[expose] public section

set_option maxRecDepth 16384

noncomputable section

namespace Cert.RouteIdeal.Hand

open Cert.RouteIdeal Cert.RouteIdeal.Gen Idealize.ShloMosaic
open Cert.Proof.Rank

/-- The word of minus infinity. -/
theorem bits_neg_inf : Ideal.ofBits .f32 4286578688#32 = ⊥ := by simp [Ideal.ofBits, Ideal.ieee]

/-- The word of thirty-two. -/
theorem bits_32 : Ideal.ofBits .f32 1107296256#32 = 32 := by
  rw [show (32 : EReal) = ((32 : ℝ) : EReal) by norm_cast]
  simp [Ideal.ofBits, Ideal.ieee, -EReal.coe_mul]; norm_num

/-- The word of minus one. -/
theorem bits_neg_one : Ideal.ofBits .f32 3212836864#32 = -1 := by
  rw [show (-1 : EReal) = ((-1 : ℝ) : EReal) by simp]
  simp [Ideal.ofBits, Ideal.ieee, -EReal.coe_mul, -EReal.coe_neg]; norm_num

/-- The signed comparison of two small numbers' words. -/
theorem slt_words {a b : ℕ} (ha : a < 2 ^ 31) (hb : b < 2 ^ 31) :
    IntOp.cmpi .slt (BitVec.ofNat 32 a) (BitVec.ofNat 32 b) = BitVec.ofBool (decide (a < b)) := by
  rw [WordCmp.cmpi_slt_eq, WordCmp.toInt_ofNat_of_lt ha, WordCmp.toInt_ofNat_of_lt hb]
  simp

/-- The equality of two small numbers' words. -/
theorem eq_words {a b : ℕ} (ha : a < 2 ^ 31) (hb : b < 2 ^ 31) :
    IntOp.cmpi .eq (BitVec.ofNat 32 a) (BitVec.ofNat 32 b) = BitVec.ofBool (decide (a = b)) := by
  rw [WordCmp.cmpi_eq_eq]
  congr 2
  exact propext (WordCmp.ofNat_eq_ofNat_iff (by omega) (by omega))

/-- A select by a truth value. -/
theorem select_ofBool {α : Type} (p : Bool) (a b : α) : Scalar.select (BitVec.ofBool p) a b = if p then a else b := by
  cases p <;> rfl

/-- A logit row with the lanes that stand for no expert at minus infinity. -/
def masked (z : Fin 128 → EReal) (l : Fin 128) : EReal := if l.val < 16 then z l else ⊥

/-- The greatest masked logit of a row. -/
def top (z : Fin 128 → EReal) : EReal := Finset.univ.fold max ⊥ (masked z)

/-- The affinities of a row: the softmax of its masked logits. -/
def aff (z : Fin 128 → EReal) (l : Fin 128) : EReal :=
  Ideal.div (Ideal.exp (masked z l - top z)) (∑ k : Fin 128, Ideal.exp (masked z k - top z))

/-- The router's affinities at a row and a lane. -/
theorem pay3_apply (x : Vec Ideal S256x128 .f32) (r : Fin 256) (l : Fin 128) :
    k0_pay3 (F := Ideal) x (ix2 r l) = aff (fun k => x (ix2 r k)) l := by
  unfold k0_pay3
  simp only [pointwise]
  have h : ∀ k : Fin 128, Scalar.select (IntOp.cmpi .slt (BitVec.ofNat 32 k.val) 16#32) (x (ix2 r k))
      ⊥ = masked (fun k => x (ix2 r k)) k := fun k => by
    rw [show (16#32) = BitVec.ofNat 32 16 from rfl, slt_words (by omega) (by omega), select_ofBool]
    simp [masked]
  simp only [List.foldl_cons, List.foldl_nil]
  simp
  simp only [bits_neg_inf, h]
  rfl

/-- The column of counts of one expert, from the affinities, their transpose and the mask of earlier rows. -/
def rankCol (A : FVec Ideal S256x128 .f32) (B : FVec Ideal S128x256 .f32) (E : IVec S256x256 1) (e : ℕ)
    (hA : S256x128.Slices ![0, e] S256x1) (hB : S128x256.Slices ![e, 0] S1x256) : FVec Ideal S256x1 .f32 :=
  shapeCast S256x1 (multiReduction .add [1] S256
    (select (ori
        (cmpf .ogt (broadcastTo S256x256 (extractStridedSlice S1x256 ![e, 0] B hB) broadcasts_S1x256_S256x256)
          (broadcastTo S256x256 (extractStridedSlice S256x1 ![0, e] A hA) broadcasts_S256x1_S256x256))
        (andi E (cmpf .oeq (broadcastTo S256x256 (extractStridedSlice S1x256 ![e, 0] B hB) broadcasts_S1x256_S256x256)
          (broadcastTo S256x256 (extractStridedSlice S256x1 ![0, e] A hA) broadcasts_S256x1_S256x256))))
      (broadcast S256x256 (Scalar.ofBits .f32 0x3F800000#32)) (broadcast S256x256 (Scalar.ofBits .f32 0x00000000#32)))
    0x00000000#32 reduces_S256x256_S256 (.inl rfl) rfl) shapeCasts_S256_S256x1

/-- One expert's lane written into the table of slots: the count where it is below the capacity, else minus one. -/
def slotStep (v : IVec S1x128 32) (e : BitVec 32) (r : FVec Ideal S256x1 .f32) (acc : FVec Ideal S256x128 .f32) : FVec Ideal S256x128 .f32 :=
  select (broadcastTo S256x128 (shapeCast S1x128 (cmpi .eq v (broadcast S1x128 e)) shapeCasts_S1x128_S1x128) broadcasts_S1x128_S256x128)
    (broadcastTo S256x128 (shapeCast S256x1
      (select (cmpf .olt r (broadcast S256x1 (Scalar.ofBits .f32 0x42000000#32))) r (broadcast S256x1 (Scalar.ofBits .f32 0xBF800000#32)))
      shapeCasts_S256x1_S256x1) broadcasts_S256x1_S256x128) acc

/-- The mask of earlier rows. -/
theorem pay5_apply (r c : Fin 256) : k0_pay5 (ix2 r c) = if c.val < r.val then 1#1 else 0#1 := by
  unfold k0_pay5
  simp only [pointwise]
  simp only [List.foldl_cons, List.foldl_nil]
  simp only [zero_mul, zero_add]
  refine (slt_words (a := c.val) (b := r.val) (by omega) (by omega)).trans ?_
  by_cases h : c.val < r.val <;> simp [h]

open scoped Classical in
/-- The column of counts is each row's rank among the rows. -/
theorem rankCol_apply (A : FVec Ideal S256x128 .f32) (B : FVec Ideal S128x256 .f32) (hAB : ∀ r l, B (ix2 l r) = A (ix2 r l))
    (e : ℕ) (he : e < 128) (hA : S256x128.Slices ![0, e] S256x1) (hB : S128x256.Slices ![e, 0] S1x256) (r : Fin 256) (z : Fin 1) :
    rankCol A B k0_pay5 e hA hB (ix2 r z) = ((rank (fun u => A (ix2 u ⟨e, he⟩)) r : ℕ) : EReal) := by
  unfold rankCol
  simp only [pointwise]
  have hb : ∀ k : Fin 256, B (ix2 ⟨e, he⟩ k) = A (ix2 k ⟨e, he⟩) := fun k => hAB k _
  have hs : ∀ k : Fin 256, Scalar.select
      (IntOp.ori (BitVec.ofBool (decide (A (ix2 r ⟨e, he⟩) < B (ix2 ⟨e, he⟩ k))))
        (IntOp.andi (k0_pay5 (ix2 r k)) (BitVec.ofBool (decide (B (ix2 ⟨e, he⟩ k) = A (ix2 r ⟨e, he⟩)))))) (1 : EReal) 0
      = if Before (fun u => A (ix2 u ⟨e, he⟩)) k r then 1 else 0 := fun k => by
    rw [pay5_apply, hb]
    rw [show (if k.val < r.val then 1#1 else 0#1) = BitVec.ofBool (decide (k < r)) by
      by_cases h : k.val < r.val <;> simp [h, Fin.lt_def]]
    rw [WordCmp.andi_ofBool, WordCmp.ori_ofBool, select_ofBool]
    simp [Before]
    congr
  refine (Finset.sum_congr rfl fun k _ => (?_ : _ = _)).trans ((Finset.sum_congr rfl fun k _ => hs k).trans ?_)
  · simp
  · rw [Finset.sum_boole]
    unfold rank
    congr

/-- The table of slots after one expert's lane is written. -/
theorem slotStep_apply (e : ℕ) (he : e < 128) (r : FVec Ideal S256x1 .f32) (acc : FVec Ideal S256x128 .f32) (t : Fin 256) (l : Fin 128) :
    slotStep (iota .tc S1x128 32 [1] iota_S1x128_d1_w32) (BitVec.ofNat 32 e) r acc (ix2 t l)
      = if l.val = e then (if r (ix2 t 0) < 32 then r (ix2 t 0) else -1) else acc (ix2 t l) := by
  unfold slotStep
  simp only [pointwise]
  simp only [List.foldl_cons, List.foldl_nil]
  simp
  rw [eq_words (by omega) (by omega), select_ofBool, bits_32, bits_neg_one]
  by_cases h : l.val = e <;> simp [h]

/-- The whole table of slots: the sixteen experts' lanes over minus ones. -/
def slots (v : IVec S1x128 32) (A : FVec Ideal S256x128 .f32) (B : FVec Ideal S128x256 .f32) (E : IVec S256x256 1) : FVec Ideal S256x128 .f32 :=
  (slotStep v 15#32 (rankCol A B E 15 slices_S256x128_o0_15_S256x1 slices_S128x256_o15_0_S1x256)
    (slotStep v 14#32 (rankCol A B E 14 slices_S256x128_o0_14_S256x1 slices_S128x256_o14_0_S1x256)
    (slotStep v 13#32 (rankCol A B E 13 slices_S256x128_o0_13_S256x1 slices_S128x256_o13_0_S1x256)
    (slotStep v 12#32 (rankCol A B E 12 slices_S256x128_o0_12_S256x1 slices_S128x256_o12_0_S1x256)
    (slotStep v 11#32 (rankCol A B E 11 slices_S256x128_o0_11_S256x1 slices_S128x256_o11_0_S1x256)
    (slotStep v 10#32 (rankCol A B E 10 slices_S256x128_o0_10_S256x1 slices_S128x256_o10_0_S1x256)
    (slotStep v 9#32 (rankCol A B E 9 slices_S256x128_o0_9_S256x1 slices_S128x256_o9_0_S1x256)
    (slotStep v 8#32 (rankCol A B E 8 slices_S256x128_o0_8_S256x1 slices_S128x256_o8_0_S1x256)
    (slotStep v 7#32 (rankCol A B E 7 slices_S256x128_o0_7_S256x1 slices_S128x256_o7_0_S1x256)
    (slotStep v 6#32 (rankCol A B E 6 slices_S256x128_o0_6_S256x1 slices_S128x256_o6_0_S1x256)
    (slotStep v 5#32 (rankCol A B E 5 slices_S256x128_o0_5_S256x1 slices_S128x256_o5_0_S1x256)
    (slotStep v 4#32 (rankCol A B E 4 slices_S256x128_o0_4_S256x1 slices_S128x256_o4_0_S1x256)
    (slotStep v 3#32 (rankCol A B E 3 slices_S256x128_o0_3_S256x1 slices_S128x256_o3_0_S1x256)
    (slotStep v 2#32 (rankCol A B E 2 slices_S256x128_o0_2_S256x1 slices_S128x256_o2_0_S1x256)
    (slotStep v 1#32 (rankCol A B E 1 slices_S256x128_o0_1_S256x1 slices_S128x256_o1_0_S1x256)
    (slotStep v 0#32 (rankCol A B E 0 slices_S256x128_o0_0_S256x1 slices_S128x256_o0_0_S1x256)
    (k0_pay6 (F := Ideal))))))))))))))))))

/-- What the router computes is this table. -/
theorem table_eq (x : Vec Ideal S256x128 .f32) :
    k0_pay1 (k0_pay42 x) (k0_pay43 x) (k0_pay44 x) (k0_pay45 x) (k0_pay46 x)
      = slots (iota .tc S1x128 32 [1] iota_S1x128_d1_w32) (k0_pay3 (View.ld x r0_0)) (k0_pay4 (View.ld x r0_0)) k0_pay5 := rfl

/-- The expert lane of the table: the row's rank where it is below the capacity, else minus one. -/
theorem slots_apply (A : FVec Ideal S256x128 .f32) (B : FVec Ideal S128x256 .f32) (hAB : ∀ r l, B (ix2 l r) = A (ix2 r l))
    (e : Fin 16) (t : Fin 256) :
    slots (iota .tc S1x128 32 [1] iota_S1x128_d1_w32) A B k0_pay5 (ix2 t (e.castLE (by decide)))
      = if rank (fun u => A (ix2 u (e.castLE (by decide)))) t < 32
        then ((rank (fun u => A (ix2 u (e.castLE (by decide)))) t : ℕ) : EReal) else -1 := by
  have key : ∀ e : ℕ, ∀ he : e < 128, ∀ (hA : S256x128.Slices ![0, e] S256x1) (hB : S128x256.Slices ![e, 0] S1x256) (acc),
      slotStep (iota .tc S1x128 32 [1] iota_S1x128_d1_w32) (BitVec.ofNat 32 e) (rankCol A B k0_pay5 e hA hB) acc (ix2 t ⟨e, he⟩)
      = if rank (fun u => A (ix2 u ⟨e, he⟩)) t < 32 then ((rank (fun u => A (ix2 u ⟨e, he⟩)) t : ℕ) : EReal) else -1 := by
    intro e he hA hB acc
    rw [slotStep_apply e he, if_pos rfl, rankCol_apply A B hAB e he hA hB]
    have h32 : ((32 : ℕ) : EReal) = 32 := rfl
    simp only [← h32, EReal.natCast_lt_iff]
  have skip : ∀ e k : ℕ, ∀ he : e < 128, ∀ hk : k < 128, k ≠ e → ∀ r acc,
      slotStep (iota .tc S1x128 32 [1] iota_S1x128_d1_w32) (BitVec.ofNat 32 e) r acc (ix2 t ⟨k, hk⟩) = acc (ix2 t ⟨k, hk⟩) := by
    intro e k he hk hne r acc
    rw [slotStep_apply e he, if_neg hne]
  unfold slots
  match e with
  | ⟨0, _⟩ =>
    refine (skip 15 0 (by decide) (by decide) (by decide) _ _).trans ?_
    refine (skip 14 0 (by decide) (by decide) (by decide) _ _).trans ?_
    refine (skip 13 0 (by decide) (by decide) (by decide) _ _).trans ?_
    refine (skip 12 0 (by decide) (by decide) (by decide) _ _).trans ?_
    refine (skip 11 0 (by decide) (by decide) (by decide) _ _).trans ?_
    refine (skip 10 0 (by decide) (by decide) (by decide) _ _).trans ?_
    refine (skip 9 0 (by decide) (by decide) (by decide) _ _).trans ?_
    refine (skip 8 0 (by decide) (by decide) (by decide) _ _).trans ?_
    refine (skip 7 0 (by decide) (by decide) (by decide) _ _).trans ?_
    refine (skip 6 0 (by decide) (by decide) (by decide) _ _).trans ?_
    refine (skip 5 0 (by decide) (by decide) (by decide) _ _).trans ?_
    refine (skip 4 0 (by decide) (by decide) (by decide) _ _).trans ?_
    refine (skip 3 0 (by decide) (by decide) (by decide) _ _).trans ?_
    refine (skip 2 0 (by decide) (by decide) (by decide) _ _).trans ?_
    refine (skip 1 0 (by decide) (by decide) (by decide) _ _).trans ?_
    exact key 0 (by decide) _ _ _
  | ⟨1, _⟩ =>
    refine (skip 15 1 (by decide) (by decide) (by decide) _ _).trans ?_
    refine (skip 14 1 (by decide) (by decide) (by decide) _ _).trans ?_
    refine (skip 13 1 (by decide) (by decide) (by decide) _ _).trans ?_
    refine (skip 12 1 (by decide) (by decide) (by decide) _ _).trans ?_
    refine (skip 11 1 (by decide) (by decide) (by decide) _ _).trans ?_
    refine (skip 10 1 (by decide) (by decide) (by decide) _ _).trans ?_
    refine (skip 9 1 (by decide) (by decide) (by decide) _ _).trans ?_
    refine (skip 8 1 (by decide) (by decide) (by decide) _ _).trans ?_
    refine (skip 7 1 (by decide) (by decide) (by decide) _ _).trans ?_
    refine (skip 6 1 (by decide) (by decide) (by decide) _ _).trans ?_
    refine (skip 5 1 (by decide) (by decide) (by decide) _ _).trans ?_
    refine (skip 4 1 (by decide) (by decide) (by decide) _ _).trans ?_
    refine (skip 3 1 (by decide) (by decide) (by decide) _ _).trans ?_
    refine (skip 2 1 (by decide) (by decide) (by decide) _ _).trans ?_
    exact key 1 (by decide) _ _ _
  | ⟨2, _⟩ =>
    refine (skip 15 2 (by decide) (by decide) (by decide) _ _).trans ?_
    refine (skip 14 2 (by decide) (by decide) (by decide) _ _).trans ?_
    refine (skip 13 2 (by decide) (by decide) (by decide) _ _).trans ?_
    refine (skip 12 2 (by decide) (by decide) (by decide) _ _).trans ?_
    refine (skip 11 2 (by decide) (by decide) (by decide) _ _).trans ?_
    refine (skip 10 2 (by decide) (by decide) (by decide) _ _).trans ?_
    refine (skip 9 2 (by decide) (by decide) (by decide) _ _).trans ?_
    refine (skip 8 2 (by decide) (by decide) (by decide) _ _).trans ?_
    refine (skip 7 2 (by decide) (by decide) (by decide) _ _).trans ?_
    refine (skip 6 2 (by decide) (by decide) (by decide) _ _).trans ?_
    refine (skip 5 2 (by decide) (by decide) (by decide) _ _).trans ?_
    refine (skip 4 2 (by decide) (by decide) (by decide) _ _).trans ?_
    refine (skip 3 2 (by decide) (by decide) (by decide) _ _).trans ?_
    exact key 2 (by decide) _ _ _
  | ⟨3, _⟩ =>
    refine (skip 15 3 (by decide) (by decide) (by decide) _ _).trans ?_
    refine (skip 14 3 (by decide) (by decide) (by decide) _ _).trans ?_
    refine (skip 13 3 (by decide) (by decide) (by decide) _ _).trans ?_
    refine (skip 12 3 (by decide) (by decide) (by decide) _ _).trans ?_
    refine (skip 11 3 (by decide) (by decide) (by decide) _ _).trans ?_
    refine (skip 10 3 (by decide) (by decide) (by decide) _ _).trans ?_
    refine (skip 9 3 (by decide) (by decide) (by decide) _ _).trans ?_
    refine (skip 8 3 (by decide) (by decide) (by decide) _ _).trans ?_
    refine (skip 7 3 (by decide) (by decide) (by decide) _ _).trans ?_
    refine (skip 6 3 (by decide) (by decide) (by decide) _ _).trans ?_
    refine (skip 5 3 (by decide) (by decide) (by decide) _ _).trans ?_
    refine (skip 4 3 (by decide) (by decide) (by decide) _ _).trans ?_
    exact key 3 (by decide) _ _ _
  | ⟨4, _⟩ =>
    refine (skip 15 4 (by decide) (by decide) (by decide) _ _).trans ?_
    refine (skip 14 4 (by decide) (by decide) (by decide) _ _).trans ?_
    refine (skip 13 4 (by decide) (by decide) (by decide) _ _).trans ?_
    refine (skip 12 4 (by decide) (by decide) (by decide) _ _).trans ?_
    refine (skip 11 4 (by decide) (by decide) (by decide) _ _).trans ?_
    refine (skip 10 4 (by decide) (by decide) (by decide) _ _).trans ?_
    refine (skip 9 4 (by decide) (by decide) (by decide) _ _).trans ?_
    refine (skip 8 4 (by decide) (by decide) (by decide) _ _).trans ?_
    refine (skip 7 4 (by decide) (by decide) (by decide) _ _).trans ?_
    refine (skip 6 4 (by decide) (by decide) (by decide) _ _).trans ?_
    refine (skip 5 4 (by decide) (by decide) (by decide) _ _).trans ?_
    exact key 4 (by decide) _ _ _
  | ⟨5, _⟩ =>
    refine (skip 15 5 (by decide) (by decide) (by decide) _ _).trans ?_
    refine (skip 14 5 (by decide) (by decide) (by decide) _ _).trans ?_
    refine (skip 13 5 (by decide) (by decide) (by decide) _ _).trans ?_
    refine (skip 12 5 (by decide) (by decide) (by decide) _ _).trans ?_
    refine (skip 11 5 (by decide) (by decide) (by decide) _ _).trans ?_
    refine (skip 10 5 (by decide) (by decide) (by decide) _ _).trans ?_
    refine (skip 9 5 (by decide) (by decide) (by decide) _ _).trans ?_
    refine (skip 8 5 (by decide) (by decide) (by decide) _ _).trans ?_
    refine (skip 7 5 (by decide) (by decide) (by decide) _ _).trans ?_
    refine (skip 6 5 (by decide) (by decide) (by decide) _ _).trans ?_
    exact key 5 (by decide) _ _ _
  | ⟨6, _⟩ =>
    refine (skip 15 6 (by decide) (by decide) (by decide) _ _).trans ?_
    refine (skip 14 6 (by decide) (by decide) (by decide) _ _).trans ?_
    refine (skip 13 6 (by decide) (by decide) (by decide) _ _).trans ?_
    refine (skip 12 6 (by decide) (by decide) (by decide) _ _).trans ?_
    refine (skip 11 6 (by decide) (by decide) (by decide) _ _).trans ?_
    refine (skip 10 6 (by decide) (by decide) (by decide) _ _).trans ?_
    refine (skip 9 6 (by decide) (by decide) (by decide) _ _).trans ?_
    refine (skip 8 6 (by decide) (by decide) (by decide) _ _).trans ?_
    refine (skip 7 6 (by decide) (by decide) (by decide) _ _).trans ?_
    exact key 6 (by decide) _ _ _
  | ⟨7, _⟩ =>
    refine (skip 15 7 (by decide) (by decide) (by decide) _ _).trans ?_
    refine (skip 14 7 (by decide) (by decide) (by decide) _ _).trans ?_
    refine (skip 13 7 (by decide) (by decide) (by decide) _ _).trans ?_
    refine (skip 12 7 (by decide) (by decide) (by decide) _ _).trans ?_
    refine (skip 11 7 (by decide) (by decide) (by decide) _ _).trans ?_
    refine (skip 10 7 (by decide) (by decide) (by decide) _ _).trans ?_
    refine (skip 9 7 (by decide) (by decide) (by decide) _ _).trans ?_
    refine (skip 8 7 (by decide) (by decide) (by decide) _ _).trans ?_
    exact key 7 (by decide) _ _ _
  | ⟨8, _⟩ =>
    refine (skip 15 8 (by decide) (by decide) (by decide) _ _).trans ?_
    refine (skip 14 8 (by decide) (by decide) (by decide) _ _).trans ?_
    refine (skip 13 8 (by decide) (by decide) (by decide) _ _).trans ?_
    refine (skip 12 8 (by decide) (by decide) (by decide) _ _).trans ?_
    refine (skip 11 8 (by decide) (by decide) (by decide) _ _).trans ?_
    refine (skip 10 8 (by decide) (by decide) (by decide) _ _).trans ?_
    refine (skip 9 8 (by decide) (by decide) (by decide) _ _).trans ?_
    exact key 8 (by decide) _ _ _
  | ⟨9, _⟩ =>
    refine (skip 15 9 (by decide) (by decide) (by decide) _ _).trans ?_
    refine (skip 14 9 (by decide) (by decide) (by decide) _ _).trans ?_
    refine (skip 13 9 (by decide) (by decide) (by decide) _ _).trans ?_
    refine (skip 12 9 (by decide) (by decide) (by decide) _ _).trans ?_
    refine (skip 11 9 (by decide) (by decide) (by decide) _ _).trans ?_
    refine (skip 10 9 (by decide) (by decide) (by decide) _ _).trans ?_
    exact key 9 (by decide) _ _ _
  | ⟨10, _⟩ =>
    refine (skip 15 10 (by decide) (by decide) (by decide) _ _).trans ?_
    refine (skip 14 10 (by decide) (by decide) (by decide) _ _).trans ?_
    refine (skip 13 10 (by decide) (by decide) (by decide) _ _).trans ?_
    refine (skip 12 10 (by decide) (by decide) (by decide) _ _).trans ?_
    refine (skip 11 10 (by decide) (by decide) (by decide) _ _).trans ?_
    exact key 10 (by decide) _ _ _
  | ⟨11, _⟩ =>
    refine (skip 15 11 (by decide) (by decide) (by decide) _ _).trans ?_
    refine (skip 14 11 (by decide) (by decide) (by decide) _ _).trans ?_
    refine (skip 13 11 (by decide) (by decide) (by decide) _ _).trans ?_
    refine (skip 12 11 (by decide) (by decide) (by decide) _ _).trans ?_
    exact key 11 (by decide) _ _ _
  | ⟨12, _⟩ =>
    refine (skip 15 12 (by decide) (by decide) (by decide) _ _).trans ?_
    refine (skip 14 12 (by decide) (by decide) (by decide) _ _).trans ?_
    refine (skip 13 12 (by decide) (by decide) (by decide) _ _).trans ?_
    exact key 12 (by decide) _ _ _
  | ⟨13, _⟩ =>
    refine (skip 15 13 (by decide) (by decide) (by decide) _ _).trans ?_
    refine (skip 14 13 (by decide) (by decide) (by decide) _ _).trans ?_
    exact key 13 (by decide) _ _ _
  | ⟨14, _⟩ =>
    refine (skip 15 14 (by decide) (by decide) (by decide) _ _).trans ?_
    exact key 14 (by decide) _ _ _
  | ⟨15, _⟩ =>
    exact key 15 (by decide) _ _ _
  | ⟨n + 16, h⟩ => exact absurd h (by omega)

/-- The transposed affinities. -/
theorem pay4_apply (x : Vec Ideal S256x128 .f32) (r : Fin 256) (l : Fin 128) :
    k0_pay4 (F := Ideal) x (ix2 l r) = k0_pay3 (F := Ideal) x (ix2 r l) := by
  unfold k0_pay4
  simp only [pointwise]

/-- The zero offset of rank two. -/
theorem hz2 : (![0, 0] : Fin 2 → Nat) = fun _ => 0 := funext fun a => by fin_cases a <;> rfl

/-- The zero offset of rank three. -/
theorem hz3 : (![0, 0, 0] : Fin 3 → Nat) = fun _ => 0 := funext fun a => by fin_cases a <;> rfl

/-- The router's first output block: the affinities. -/
theorem out0_1_apply (x : Vec Ideal S256x128 .f32) (r : Fin 256) (l : Fin 128) :
    out0_1 (F := Ideal) x (ix2 r l) = aff (fun k => x (ix2 r k)) l := by
  rw [← pay3_apply]
  unfold out0_1 r0_0
  rw [View.canon_unit_zero hz2, View.ld_unit_zero (S := S256x128) hz2]

/-- The rank of a row among a block's rows for an expert. -/
def rk (x : Vec Ideal S256x128 .f32) (e : Fin 16) (t : Fin 256) : ℕ :=
  rank (fun u => aff (fun k => x (ix2 u k)) (e.castLE (by decide))) t

/-- The router's third output block: the transposed table of slots. -/
theorem out0_3_apply (x : Vec Ideal S256x128 .f32) (e : Fin 16) (t : Fin 256) :
    out0_3 (F := Ideal) x (ix3 0 (e.castLE (by decide)) t) = if rk x e t < 32 then ((rk x e t : ℕ) : EReal) else -1 := by
  unfold out0_3 k0_pay2
  rw [table_eq]
  unfold r0_0 r0_1
  rw [View.canon_unit_zero hz3, View.ld_unit_zero (S := S256x128) hz2]
  simp only [pointwise]
  refine (slots_apply (k0_pay3 (F := Ideal) x) (k0_pay4 (F := Ideal) x) (fun r l => pay4_apply x r l) e t).trans ?_
  simp only [pay3_apply]
  rfl

end Cert.RouteIdeal.Hand

end
-- ==== Proof.GatherBlock.lean ====
module

public import proofs.«01_k».proof.Proof.RouterBlock
public import Idealize.ShloMosaic.Lib.Pipeline.ValueKit.Tiles

@[expose] public section

set_option maxRecDepth 16384

noncomputable section

namespace Cert.RouteIdeal.Hand

open Cert.RouteIdeal Cert.RouteIdeal.Gen Idealize.ShloMosaic
open Cert.Proof.Rank

/-- One expert's rows of the selection matrix: one where the slot of a row of tokens is the number of the place. -/
def hot (v : Vec Ideal S1x1x256 .f32) : FVec Ideal S32x256 .bf16 :=
  truncf .bf16 (sitofp .f32 (extui 32 (cmpf .oeq
    (broadcastTo S32x256 (shapeCast S1x256 v shapeCasts_S1x1x256_S1x256) broadcasts_S1x256_S32x256)
    (broadcastTo S32x256 (k1_pay6 (F := Ideal)) broadcasts_S32x1_S32x256)) natLt_1_32)) bitsLt_bf16_f32

/-- One entry of it. -/
theorem hot_apply (v : Vec Ideal S1x1x256 .f32) (c : Fin 32) (t : Fin 256) :
    hot v (ix2 c t) = if v (ix3 0 0 t) = ((c.val : ℕ) : EReal) then 1 else 0 := by
  unfold hot k1_pay6
  simp only [pointwise]
  simp only [List.foldl_cons, List.foldl_nil]
  simp
  have hs : FloatOps.sitofp (F := Ideal) FTy.f32 (BitVec.ofNat 32 c.val) = ((c.val : ℕ) : EReal) := by
    show (((BitVec.ofNat 32 c.val).toInt : ℝ) : EReal) = _
    rw [WordCmp.toInt_ofNat_of_lt (by omega)]
    simp
  rw [hs]
  by_cases h : v (ix3 0 0 t) = ((c.val : ℕ) : EReal) <;> simp [h] <;>
    simp [FloatOps.sitofp]

/-- The selection matrix is the sixteen experts' one above another. -/
theorem pay52_eq (x0 : Vec Ideal S256x2048 .bf16) (x1 : Vec Ideal S1x128x256 .f32) (x2 : Vec Ideal S256x128 .f32) :
    k1_pay52 x0 x1 x2 = concatenate S512x256 0 [⟨S32x256, hot (View.ld x1 r1_0)⟩, ⟨S32x256, hot (View.ld x1 r1_1)⟩,
      ⟨S32x256, hot (View.ld x1 r1_2)⟩, ⟨S32x256, hot (View.ld x1 r1_3)⟩, ⟨S32x256, hot (View.ld x1 r1_4)⟩,
      ⟨S32x256, hot (View.ld x1 r1_5)⟩, ⟨S32x256, hot (View.ld x1 r1_6)⟩, ⟨S32x256, hot (View.ld x1 r1_7)⟩,
      ⟨S32x256, hot (View.ld x1 r1_8)⟩, ⟨S32x256, hot (View.ld x1 r1_9)⟩, ⟨S32x256, hot (View.ld x1 r1_10)⟩,
      ⟨S32x256, hot (View.ld x1 r1_11)⟩, ⟨S32x256, hot (View.ld x1 r1_12)⟩, ⟨S32x256, hot (View.ld x1 r1_13)⟩,
      ⟨S32x256, hot (View.ld x1 r1_14)⟩, ⟨S32x256, hot (View.ld x1 r1_15)⟩] concatenates_S32x256_S32x256_S32x256_S32x256_S32x256_S32x256_S32x256_S32x256_S32x256_S32x256_S32x256_S32x256_S32x256_S32x256_S32x256_S32x256_S512x256_d0 := rfl

/-- One expert's row of slots. -/
def rowOf (x1 : Vec Ideal S1x128x256 .f32) (k : Fin 16) : Vec Ideal S1x1x256 .f32 :=
  fun y => x1 (ix3 0 (k.castLE (by decide)) (y 2))

/-- A load of one row of slots. -/
theorem ld_row (x1 : Vec Ideal S1x128x256 .f32) (k : ℕ) (hk : k < 16) (inb) :
    View.ld x1 (Rect.unit (s := S1x128x256) ![0, k, 0] S1x1x256.size inb) = rowOf x1 ⟨k, hk⟩ := by
  funext y
  show x1 _ = x1 _
  congr 1
  funext a
  apply Fin.ext
  have h0 : (y 0).val < 1 := (y 0).isLt
  have h1 : (y 1).val < 1 := (y 1).isLt
  match a with
  | ⟨0, _⟩ => show 0 + 1 * (y 0).val = 0; omega
  | ⟨1, _⟩ => show k + 1 * (y 1).val = k; omega
  | ⟨2, _⟩ => show 0 + 1 * (y 2).val = (y 2).val; omega

/-- The selection matrix over the rows of slots. -/
theorem pay52_rows (x0 : Vec Ideal S256x2048 .bf16) (x1 : Vec Ideal S1x128x256 .f32) (x2 : Vec Ideal S256x128 .f32) :
    k1_pay52 x0 x1 x2 = concatenate S512x256 0
      (List.ofFn fun n : Fin 16 => (⟨S32x256, hot (rowOf x1 n)⟩ : (s : Shape) × (s.Idx → EReal)))
      concatenates_S32x256_S32x256_S32x256_S32x256_S32x256_S32x256_S32x256_S32x256_S32x256_S32x256_S32x256_S32x256_S32x256_S32x256_S32x256_S32x256_S512x256_d0 := by
  rw [pay52_eq]
  rw [ld_row x1 0 (by decide), ld_row x1 1 (by decide), ld_row x1 2 (by decide), ld_row x1 3 (by decide), ld_row x1 4 (by decide), ld_row x1 5 (by decide), ld_row x1 6 (by decide), ld_row x1 7 (by decide), ld_row x1 8 (by decide), ld_row x1 9 (by decide), ld_row x1 10 (by decide), ld_row x1 11 (by decide), ld_row x1 12 (by decide), ld_row x1 13 (by decide), ld_row x1 14 (by decide), ld_row x1 15 (by decide)]
  rfl

/-- An entry of the selection matrix. -/
theorem pay52_apply (x0 : Vec Ideal S256x2048 .bf16) (x1 : Vec Ideal S1x128x256 .f32) (x2 : Vec Ideal S256x128 .f32)
    (e : Fin 16) (c : Fin 32) (t : Fin 256) :
    k1_pay52 x0 x1 x2 (ix2 ⟨e.val * 32 + c.val, by omega⟩ t)
      = if x1 (ix3 0 (e.castLE (by decide)) t) = ((c.val : ℕ) : EReal) then 1 else 0 := by
  rw [pay52_rows]
  refine (concatenate_ofFn_apply (t := S512x256) (s₁ := S32x256) 0 (fun n : Fin 16 => hot (rowOf x1 n)) _ rfl 32 rfl _ e ?_ (ix2 c t) ?_ ?_).trans ?_
  · show (e.val * 32 + c.val) / 32 = e.val; omega
  · show c.val = (e.val * 32 + c.val) % 32; omega
  · intro b hb
    match b with
    | ⟨0, _⟩ => exact absurd rfl hb
    | ⟨1, _⟩ => rfl
  · exact hot_apply _ c t

/-- The gathered rows, before they are cut into the experts' blocks. -/
theorem pay53_apply (x0 : Vec Ideal S256x2048 .bf16) (x1 : Vec Ideal S1x128x256 .f32) (x2 : Vec Ideal S256x128 .f32)
    (i : Fin 512) (d : Fin 2048) :
    k1_pay53 x0 x1 x2 (ix2 i d) = ∑ t : Fin 256, k1_pay52 x0 x1 x2 (ix2 i t) * x0 (ix2 t d) := by
  unfold k1_pay53 k1_pay20 r1_16
  rw [View.ld_unit_zero (S := S256x2048) hz2]
  simp only [pointwise]
  simp

/-- The gathered affinities, before they are cut into the experts' blocks: the sum of the three parts' products. -/
theorem pay54_apply (x0 : Vec Ideal S256x2048 .bf16) (x1 : Vec Ideal S1x128x256 .f32) (x2 : Vec Ideal S256x128 .f32)
    (i : Fin 512) (l : Fin 128) :
    k1_pay54 x0 x1 x2 (ix2 i l) = ∑ t : Fin 256, k1_pay52 x0 x1 x2 (ix2 i t) * x2 (ix2 t l)
      + ∑ t : Fin 256, k1_pay52 x0 x1 x2 (ix2 i t) * (x2 (ix2 t l) - x2 (ix2 t l))
      + ∑ t : Fin 256, k1_pay52 x0 x1 x2 (ix2 i t) * ((x2 (ix2 t l) - x2 (ix2 t l)) - (x2 (ix2 t l) - x2 (ix2 t l))) := by
  unfold k1_pay54 k1_pay21 r1_17
  rw [View.ld_unit_zero (S := S256x128) hz2]
  simp only [pointwise]
  simp

/-- Thirty-two of the gathered rows, as a block of one expert. -/
def cut2048 (o : ℕ) (h : S512x2048.Slices ![o, 0] S32x2048) (v : FVec Ideal S512x2048 .bf16) : FVec Ideal S1x32x2048 .bf16 :=
  shapeCast S1x32x2048 (extractStridedSlice S32x2048 ![o, 0] v h) shapeCasts_S32x2048_S1x32x2048

/-- Where such a block lies in the store, it holds the row of its expert and place. -/
theorem cut2048_tile (v : FVec Ideal S512x2048 .bf16) (e : Fin 16) (c : Fin 32) (d : Fin 2048) (k o : ℕ) (ho : o = 32 * k)
    (h : S512x2048.Slices ![o, 0] S32x2048) :
    View.TileAt (S := S16x32x2048) (Val := Elt Ideal) (e := .bf16) (ix3 e c d) ![k, 0, 0] S1x32x2048.size (cut2048 o h v) (v (ix2 ⟨e.val * 32 + c.val, by omega⟩ d)) := by
  intro x hx
  have h0 : e.val = k + (x 0).val := hx 0
  have h1 : c.val = 0 + (x 1).val := hx 1
  have h2 : d.val = 0 + (x 2).val := hx 2
  have hz : (x 0).val < 1 := (x 0).isLt
  unfold cut2048
  show shapeCast S1x32x2048 (extractStridedSlice S32x2048 ![o, 0] v h) _ x = _
  have hx3 : x = ix3 (x 0) (x 1) (x 2) := by funext a; match a with | ⟨0, _⟩ => rfl | ⟨1, _⟩ => rfl | ⟨2, _⟩ => rfl
  generalize hp : (x 0 : Fin 1) = p at *
  generalize hq : (x 1 : Fin 32) = q at *
  generalize hr : (x 2 : Fin 2048) = r at *
  rw [hx3]
  simp only [pointwise]
  refine congrArg v (congrArg₂ ix2 (Fin.ext ?_) (Fin.ext ?_))
  · show o + q.val = e.val * 32 + c.val
    omega
  · show 0 + r.val = d.val
    omega

/-- The sixteen stores of the gathered rows. -/
theorem out1_3_cut (x0 : Vec Ideal S256x2048 .bf16) (x1 : Vec Ideal S1x128x256 .f32) (x2 : Vec Ideal S256x128 .f32) :
    out1_3 (F := Ideal) x0 x1 x2 = View.canon [
    ⟨r1_48, cut2048 480 slices_S512x2048_o480_0_S32x2048 (k1_pay53 x0 x1 x2)⟩,
    ⟨r1_46, cut2048 448 slices_S512x2048_o448_0_S32x2048 (k1_pay53 x0 x1 x2)⟩,
    ⟨r1_44, cut2048 416 slices_S512x2048_o416_0_S32x2048 (k1_pay53 x0 x1 x2)⟩,
    ⟨r1_42, cut2048 384 slices_S512x2048_o384_0_S32x2048 (k1_pay53 x0 x1 x2)⟩,
    ⟨r1_40, cut2048 352 slices_S512x2048_o352_0_S32x2048 (k1_pay53 x0 x1 x2)⟩,
    ⟨r1_38, cut2048 320 slices_S512x2048_o320_0_S32x2048 (k1_pay53 x0 x1 x2)⟩,
    ⟨r1_36, cut2048 288 slices_S512x2048_o288_0_S32x2048 (k1_pay53 x0 x1 x2)⟩,
    ⟨r1_34, cut2048 256 slices_S512x2048_o256_0_S32x2048 (k1_pay53 x0 x1 x2)⟩,
    ⟨r1_32, cut2048 224 slices_S512x2048_o224_0_S32x2048 (k1_pay53 x0 x1 x2)⟩,
    ⟨r1_30, cut2048 192 slices_S512x2048_o192_0_S32x2048 (k1_pay53 x0 x1 x2)⟩,
    ⟨r1_28, cut2048 160 slices_S512x2048_o160_0_S32x2048 (k1_pay53 x0 x1 x2)⟩,
    ⟨r1_26, cut2048 128 slices_S512x2048_o128_0_S32x2048 (k1_pay53 x0 x1 x2)⟩,
    ⟨r1_24, cut2048 96 slices_S512x2048_o96_0_S32x2048 (k1_pay53 x0 x1 x2)⟩,
    ⟨r1_22, cut2048 64 slices_S512x2048_o64_0_S32x2048 (k1_pay53 x0 x1 x2)⟩,
    ⟨r1_20, cut2048 32 slices_S512x2048_o32_0_S32x2048 (k1_pay53 x0 x1 x2)⟩,
    ⟨r1_18, cut2048 0 slices_S512x2048_o0_0_S32x2048 (k1_pay53 x0 x1 x2)⟩] := rfl

/-- An expert's place in the block of the gathered rows. -/
theorem out1_3_apply (x0 : Vec Ideal S256x2048 .bf16) (x1 : Vec Ideal S1x128x256 .f32) (x2 : Vec Ideal S256x128 .f32)
    (e : Fin 16) (c : Fin 32) (d : Fin 2048) :
    out1_3 (F := Ideal) x0 x1 x2 (ix3 e c d) = k1_pay53 x0 x1 x2 (ix2 ⟨e.val * 32 + c.val, by omega⟩ d) := by
  rw [out1_3_cut]
  generalize k1_pay53 x0 x1 x2 = v
  refine View.canon_eq_of_allAt _ _ _ (cover1_3 _ _ _ _ _ _ _ _ _ _ _ _ _ _ _ _ _) ?_
  refine View.allAt_cons_unit _ _ _ _ _ (cut2048_tile v e c d 15 480 rfl _) ?_
  refine View.allAt_cons_unit _ _ _ _ _ (cut2048_tile v e c d 14 448 rfl _) ?_
  refine View.allAt_cons_unit _ _ _ _ _ (cut2048_tile v e c d 13 416 rfl _) ?_
  refine View.allAt_cons_unit _ _ _ _ _ (cut2048_tile v e c d 12 384 rfl _) ?_
  refine View.allAt_cons_unit _ _ _ _ _ (cut2048_tile v e c d 11 352 rfl _) ?_
  refine View.allAt_cons_unit _ _ _ _ _ (cut2048_tile v e c d 10 320 rfl _) ?_
  refine View.allAt_cons_unit _ _ _ _ _ (cut2048_tile v e c d 9 288 rfl _) ?_
  refine View.allAt_cons_unit _ _ _ _ _ (cut2048_tile v e c d 8 256 rfl _) ?_
  refine View.allAt_cons_unit _ _ _ _ _ (cut2048_tile v e c d 7 224 rfl _) ?_
  refine View.allAt_cons_unit _ _ _ _ _ (cut2048_tile v e c d 6 192 rfl _) ?_
  refine View.allAt_cons_unit _ _ _ _ _ (cut2048_tile v e c d 5 160 rfl _) ?_
  refine View.allAt_cons_unit _ _ _ _ _ (cut2048_tile v e c d 4 128 rfl _) ?_
  refine View.allAt_cons_unit _ _ _ _ _ (cut2048_tile v e c d 3 96 rfl _) ?_
  refine View.allAt_cons_unit _ _ _ _ _ (cut2048_tile v e c d 2 64 rfl _) ?_
  refine View.allAt_cons_unit _ _ _ _ _ (cut2048_tile v e c d 1 32 rfl _) ?_
  refine View.allAt_cons_unit _ _ _ _ _ (cut2048_tile v e c d 0 0 rfl _) ?_
  exact View.allAt_nil _ _

/-- Thirty-two of the gathered affinities, as a block of one expert. -/
def cut128 (o : ℕ) (h : S512x128.Slices ![o, 0] S32x128) (v : FVec Ideal S512x128 .f32) : FVec Ideal S1x32x128 .f32 :=
  shapeCast S1x32x128 (extractStridedSlice S32x128 ![o, 0] v h) shapeCasts_S32x128_S1x32x128

/-- Where such a block lies in the store, it holds the row of its expert and place. -/
theorem cut128_tile (v : FVec Ideal S512x128 .f32) (e : Fin 16) (c : Fin 32) (d : Fin 128) (k o : ℕ) (ho : o = 32 * k)
    (h : S512x128.Slices ![o, 0] S32x128) :
    View.TileAt (S := S16x32x128) (Val := Elt Ideal) (e := .f32) (ix3 e c d) ![k, 0, 0] S1x32x128.size (cut128 o h v) (v (ix2 ⟨e.val * 32 + c.val, by omega⟩ d)) := by
  intro x hx
  have h0 : e.val = k + (x 0).val := hx 0
  have h1 : c.val = 0 + (x 1).val := hx 1
  have h2 : d.val = 0 + (x 2).val := hx 2
  have hz : (x 0).val < 1 := (x 0).isLt
  unfold cut128
  show shapeCast S1x32x128 (extractStridedSlice S32x128 ![o, 0] v h) _ x = _
  have hx3 : x = ix3 (x 0) (x 1) (x 2) := by funext a; match a with | ⟨0, _⟩ => rfl | ⟨1, _⟩ => rfl | ⟨2, _⟩ => rfl
  generalize hp : (x 0 : Fin 1) = p at *
  generalize hq : (x 1 : Fin 32) = q at *
  generalize hr : (x 2 : Fin 128) = r at *
  rw [hx3]
  simp only [pointwise]
  refine congrArg v (congrArg₂ ix2 (Fin.ext ?_) (Fin.ext ?_))
  · show o + q.val = e.val * 32 + c.val
    omega
  · show 0 + r.val = d.val
    omega

/-- The sixteen stores of the gathered affinities. -/
theorem out1_4_cut (x0 : Vec Ideal S256x2048 .bf16) (x1 : Vec Ideal S1x128x256 .f32) (x2 : Vec Ideal S256x128 .f32) :
    out1_4 (F := Ideal) x0 x1 x2 = View.canon [
    ⟨r1_49, cut128 480 slices_S512x128_o480_0_S32x128 (k1_pay54 x0 x1 x2)⟩,
    ⟨r1_47, cut128 448 slices_S512x128_o448_0_S32x128 (k1_pay54 x0 x1 x2)⟩,
    ⟨r1_45, cut128 416 slices_S512x128_o416_0_S32x128 (k1_pay54 x0 x1 x2)⟩,
    ⟨r1_43, cut128 384 slices_S512x128_o384_0_S32x128 (k1_pay54 x0 x1 x2)⟩,
    ⟨r1_41, cut128 352 slices_S512x128_o352_0_S32x128 (k1_pay54 x0 x1 x2)⟩,
    ⟨r1_39, cut128 320 slices_S512x128_o320_0_S32x128 (k1_pay54 x0 x1 x2)⟩,
    ⟨r1_37, cut128 288 slices_S512x128_o288_0_S32x128 (k1_pay54 x0 x1 x2)⟩,
    ⟨r1_35, cut128 256 slices_S512x128_o256_0_S32x128 (k1_pay54 x0 x1 x2)⟩,
    ⟨r1_33, cut128 224 slices_S512x128_o224_0_S32x128 (k1_pay54 x0 x1 x2)⟩,
    ⟨r1_31, cut128 192 slices_S512x128_o192_0_S32x128 (k1_pay54 x0 x1 x2)⟩,
    ⟨r1_29, cut128 160 slices_S512x128_o160_0_S32x128 (k1_pay54 x0 x1 x2)⟩,
    ⟨r1_27, cut128 128 slices_S512x128_o128_0_S32x128 (k1_pay54 x0 x1 x2)⟩,
    ⟨r1_25, cut128 96 slices_S512x128_o96_0_S32x128 (k1_pay54 x0 x1 x2)⟩,
    ⟨r1_23, cut128 64 slices_S512x128_o64_0_S32x128 (k1_pay54 x0 x1 x2)⟩,
    ⟨r1_21, cut128 32 slices_S512x128_o32_0_S32x128 (k1_pay54 x0 x1 x2)⟩,
    ⟨r1_19, cut128 0 slices_S512x128_o0_0_S32x128 (k1_pay54 x0 x1 x2)⟩] := rfl

/-- An expert's place in the block of the gathered affinities. -/
theorem out1_4_apply (x0 : Vec Ideal S256x2048 .bf16) (x1 : Vec Ideal S1x128x256 .f32) (x2 : Vec Ideal S256x128 .f32)
    (e : Fin 16) (c : Fin 32) (d : Fin 128) :
    out1_4 (F := Ideal) x0 x1 x2 (ix3 e c d) = k1_pay54 x0 x1 x2 (ix2 ⟨e.val * 32 + c.val, by omega⟩ d) := by
  rw [out1_4_cut]
  generalize k1_pay54 x0 x1 x2 = v
  refine View.canon_eq_of_allAt _ _ _ (cover1_4 _ _ _ _ _ _ _ _ _ _ _ _ _ _ _ _ _) ?_
  refine View.allAt_cons_unit _ _ _ _ _ (cut128_tile v e c d 15 480 rfl _) ?_
  refine View.allAt_cons_unit _ _ _ _ _ (cut128_tile v e c d 14 448 rfl _) ?_
  refine View.allAt_cons_unit _ _ _ _ _ (cut128_tile v e c d 13 416 rfl _) ?_
  refine View.allAt_cons_unit _ _ _ _ _ (cut128_tile v e c d 12 384 rfl _) ?_
  refine View.allAt_cons_unit _ _ _ _ _ (cut128_tile v e c d 11 352 rfl _) ?_
  refine View.allAt_cons_unit _ _ _ _ _ (cut128_tile v e c d 10 320 rfl _) ?_
  refine View.allAt_cons_unit _ _ _ _ _ (cut128_tile v e c d 9 288 rfl _) ?_
  refine View.allAt_cons_unit _ _ _ _ _ (cut128_tile v e c d 8 256 rfl _) ?_
  refine View.allAt_cons_unit _ _ _ _ _ (cut128_tile v e c d 7 224 rfl _) ?_
  refine View.allAt_cons_unit _ _ _ _ _ (cut128_tile v e c d 6 192 rfl _) ?_
  refine View.allAt_cons_unit _ _ _ _ _ (cut128_tile v e c d 5 160 rfl _) ?_
  refine View.allAt_cons_unit _ _ _ _ _ (cut128_tile v e c d 4 128 rfl _) ?_
  refine View.allAt_cons_unit _ _ _ _ _ (cut128_tile v e c d 3 96 rfl _) ?_
  refine View.allAt_cons_unit _ _ _ _ _ (cut128_tile v e c d 2 64 rfl _) ?_
  refine View.allAt_cons_unit _ _ _ _ _ (cut128_tile v e c d 1 32 rfl _) ?_
  refine View.allAt_cons_unit _ _ _ _ _ (cut128_tile v e c d 0 0 rfl _) ?_
  exact View.allAt_nil _ _

/-- A sum over a block's tokens against one expert's selection row has one term: the picked token's. -/
theorem sum_hot (f : Fin 256 → EReal) (s : Fin 256 → EReal) (c : Fin 32) (y : Fin 256 → EReal)
    (hs : ∀ t, s t = if rank f t < 32 then ((rank f t : ℕ) : EReal) else -1) :
    ∑ t : Fin 256, (if s t = ((c.val : ℕ) : EReal) then (1 : EReal) else 0) * y t = y (pick f (c.castLE (by decide))) := by
  have key : ∀ t, (s t = ((c.val : ℕ) : EReal)) ↔ t = pick f (c.castLE (by decide)) := by
    intro t
    rw [← rank_eq_iff, hs]
    show _ ↔ rank f t = c.val
    split
    · exact Nat.cast_inj (R := EReal)
    · constructor
      · intro h
        exfalso
        have h0 : (0 : EReal) ≤ ((c.val : ℕ) : EReal) := by exact_mod_cast Nat.zero_le c.val
        rw [← h] at h0
        exact absurd h0 (by simp)
      · intro h
        exact absurd c.isLt (by omega)
  rw [Finset.sum_eq_single (pick f (c.castLE (by decide)))]
  · rw [if_pos ((key _).2 rfl), one_mul]
  · intro t _ ht
    rw [if_neg (fun h => ht ((key t).1 h)), zero_mul]
  · intro h
    exact absurd (Finset.mem_univ _) h

/-- The block of gathered rows holds the picked tokens' rows. -/
theorem out1_3_pick (x0 : Vec Ideal S256x2048 .bf16) (x1 : Vec Ideal S1x128x256 .f32) (x2 : Vec Ideal S256x128 .f32)
    (f : Fin 16 → Fin 256 → EReal)
    (hs : ∀ e t, x1 (ix3 0 (e.castLE (by decide)) t) = if rank (f e) t < 32 then ((rank (f e) t : ℕ) : EReal) else -1)
    (e : Fin 16) (c : Fin 32) (d : Fin 2048) :
    out1_3 (F := Ideal) x0 x1 x2 (ix3 e c d) = x0 (ix2 (pick (f e) (c.castLE (by decide))) d) := by
  rw [out1_3_apply, pay53_apply]
  simp only [pay52_apply]
  exact sum_hot (f e) _ c (fun t => x0 (ix2 t d)) (hs e)

/-- A value less itself is nothing that can be added to it, unless it is the greatest. -/
theorem three_parts (x : EReal) (h : x ≠ ⊤) : x + (x - x) + ((x - x) - (x - x)) = x := by
  induction x using EReal.rec with
  | bot => simp
  | top => exact absurd rfl h
  | coe r => rw [← EReal.coe_sub, ← EReal.coe_sub, ← EReal.coe_add, ← EReal.coe_add]; simp

/-- The block of gathered affinities holds the picked tokens' affinities. -/
theorem out1_4_pick (x0 : Vec Ideal S256x2048 .bf16) (x1 : Vec Ideal S1x128x256 .f32) (x2 : Vec Ideal S256x128 .f32)
    (f : Fin 16 → Fin 256 → EReal)
    (hs : ∀ e t, x1 (ix3 0 (e.castLE (by decide)) t) = if rank (f e) t < 32 then ((rank (f e) t : ℕ) : EReal) else -1)
    (hx : ∀ t l, x2 (ix2 t l) ≠ ⊤)
    (e : Fin 16) (c : Fin 32) (l : Fin 128) :
    out1_4 (F := Ideal) x0 x1 x2 (ix3 e c l) = x2 (ix2 (pick (f e) (c.castLE (by decide))) l) := by
  rw [out1_4_apply, pay54_apply]
  simp only [pay52_apply]
  refine (congrArg₂ (· + ·) (congrArg₂ (· + ·) (sum_hot (f e) _ c (fun t => x2 (ix2 t l)) (hs e))
    (sum_hot (f e) _ c (fun t => x2 (ix2 t l) - x2 (ix2 t l)) (hs e)))
    (sum_hot (f e) _ c (fun t => (x2 (ix2 t l) - x2 (ix2 t l)) - (x2 (ix2 t l) - x2 (ix2 t l))) (hs e))).trans ?_
  exact three_parts _ (hx _ _)

/-- An affinity is never the greatest value. -/
theorem aff_ne_top (z : Fin 128 → EReal) (l : Fin 128) : aff z l ≠ ⊤ := by
  have hpos : ∀ k, 0 ≤ Ideal.exp (masked z k - top z) := by
    intro k
    generalize masked z k - top z = u
    induction u using EReal.rec with
    | bot => exact le_refl _
    | top => exact le_top
    | coe r => exact EReal.coe_nonneg.2 (Real.exp_pos r).le
  have hle : Ideal.exp (masked z l - top z) ≤ ∑ k : Fin 128, Ideal.exp (masked z k - top z) :=
    Finset.single_le_sum (f := fun k => Ideal.exp (masked z k - top z)) (fun k _ => hpos k) (Finset.mem_univ l)
  have hm : masked z l ≤ top z := by
    unfold top
    rw [Finset.le_fold_max]
    exact Or.inr ⟨l, Finset.mem_univ _, le_refl _⟩
  have hfin : Ideal.exp (masked z l - top z) ≠ ⊤ := by
    have : masked z l - top z ≠ ⊤ := by
      intro h
      have h2 : masked z l - top z ≤ 0 ∨ top z = ⊥ := by
        by_cases hb : top z = ⊥
        · exact Or.inr hb
        · by_cases ht : top z = ⊤
          · left; rw [ht]; simp
          · left; exact (EReal.sub_nonpos).2 hm
      rcases h2 with h2 | h2
      · rw [h] at h2; exact absurd h2 (by simp)
      · rw [h2] at hm h
        rw [le_bot_iff.1 hm] at h
        simp at h
    revert this
    generalize masked z l - top z = u
    induction u using EReal.rec with
    | bot => intro _; exact EReal.zero_ne_top
    | top => intro h; exact absurd rfl h
    | coe r => intro _; exact EReal.coe_ne_top _
  unfold aff
  have h0 := hpos l
  revert hle hfin h0
  generalize Ideal.exp (masked z l - top z) = p
  generalize (∑ k : Fin 128, Ideal.exp (masked z k - top z)) = q
  intro hle hfin h0
  unfold Ideal.div
  by_cases hq : q = 0
  · rw [if_pos hq, if_neg (by rw [hq] at hle; exact not_lt.2 hle)]
    exact bot_ne_top
  · rw [if_neg hq]
    induction p using EReal.rec with
    | bot => exact absurd h0 (by simp)
    | top => exact absurd rfl hfin
    | coe r =>
      induction q using EReal.rec with
      | bot => simp
      | top => simp
      | coe s => rw [← EReal.coe_inv, ← EReal.coe_mul]; exact EReal.coe_ne_top _

end Cert.RouteIdeal.Hand

end
-- ==== Proof.RouteRun.lean ====
module

public import proofs.«01_k».proof.Proof.GatherBlock
public import Idealize.ShloMosaic.Lib.Pipeline.ValueKit.Geometry
public import Idealize.ShloMosaic.Adequacy
public import Idealize.ShloMosaic.Init

@[expose] public section

set_option maxRecDepth 16384

noncomputable section

namespace Cert.RouteIdeal.Hand

open Cert.RouteIdeal Cert.RouteIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Proof.Rank

variable (m : (ℓ : Loc nD τ sig) → Buf (Elt Ideal) ℓ) (ρ : Dev nD → PrngReg)

/-- The router's logits. -/
abbrev lg (c : Dev nD) : S16384x128.Idx → EReal := m (c.tc.loc main_arg0)
/-- The tokens' rows. -/
abbrev hh (c : Dev nD) : S16384x2048.Idx → EReal := m (c.tc.loc main_arg1)

/-- One sequence's logits. -/
def lgBlk (c : Dev nD) (s : ℕ) (hs : s < 32) : Vec Ideal S256x128 .f32 :=
  fun y => lg m c (ix2 ⟨s * 256 + (y 0).val, by have : (y 0).val < 256 := (y 0).isLt; omega⟩ (y 1))
/-- One sequence's rows. -/
def hBlk (c : Dev nD) (s : ℕ) (hs : s < 32) : Vec Ideal S256x2048 .bf16 :=
  fun y => hh m c (ix2 ⟨s * 256 + (y 0).val, by have : (y 0).val < 256 := (y 0).isLt; omega⟩ (y 1))

theorem lt_sixteen (t : Fin cfg0.N) : t.val < 32 := lt_of_lt_of_eq t.isLt N_0
theorem lt_sixteen' (t : Fin cfg1.N) : t.val < 32 := lt_of_lt_of_eq t.isLt N_1

/-- The index maps of the first call. -/
theorem idx_first : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

/-- The index maps of the second call. -/
theorem idx_second : ∀ t : Fin cfg1.N, (win1_0.index t (0 : Fin 2) = t.val ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 2) = t.val ∧ win1_2.index t (1 : Fin 2) = 0)
    ∧ (win1_3.index t (0 : Fin 3) = 0 ∧ win1_3.index t (1 : Fin 3) = t.val ∧ win1_3.index t (2 : Fin 3) = 0)
    ∧ (win1_4.index t (0 : Fin 3) = 0 ∧ win1_4.index t (1 : Fin 3) = t.val ∧ win1_4.index t (2 : Fin 3) = 0) :=
  (by decide +kernel : ∀ t : Fin grid1.N, _)

/-- The first call's logits block at a point. -/
theorem blk0_0 (c : Dev nD) (t : Fin cfg0.N) :
    (iblk0 (V0 m ρ) c 0 t : Vec Ideal S256x128 .f32) = lgBlk m c t.val (lt_sixteen t) := by
  obtain ⟨⟨h0, h1⟩, -⟩ := idx_first t
  funext y
  unfold iblk0
  rw [View.read_apply]
  show m (c.tc.loc main_arg0) _ = m (c.tc.loc main_arg0) _
  congr 1
  funext a
  apply Fin.ext
  match a with
  | ⟨0, _⟩ => show win0_0.index t 0 * 256 + 1 * (y 0).val = t.val * 256 + (y 0).val; omega
  | ⟨1, _⟩ => show win0_0.index t 1 * 128 + 1 * (y 1).val = (y 1).val; omega

theorem lgBlk_congr (c : Dev nD) (s s' : ℕ) (hs : s < 32) (hs' : s' < 32) (h : s = s') : lgBlk m c s hs = lgBlk m c s' hs' := by
  subst h; rfl

/-! ### Arrays made of blocks -/

/-- An array of 32 blocks of 256 rows. -/
def rowsOf (X : (s : ℕ) → s < 32 → Vec Ideal S256x128 .f32) : S8192x128.Idx → EReal := fun i =>
  X ((i 0).val / 256) (by have : (i 0).val < 8192 := (i 0).isLt; omega) (ix2 ⟨(i 0).val % 256, by omega⟩ (i 1))

/-- Reading it at a block's place. -/
theorem rowsOf_at (X : (s : ℕ) → s < 32 → Vec Ideal S256x128 .f32) (i : S8192x128.Idx) (s : ℕ) (hs : s < 32) (y : S256x128.Idx)
    (h0 : (i 0).val = s * 256 + (y 0).val) (h1 : (i 1).val = (y 1).val) : rowsOf X i = X s hs y := by
  have hy : (y 0).val < 256 := (y 0).isLt
  unfold rowsOf
  have key : ∀ (s' : ℕ) (hs' : s' < 32) (z : S256x128.Idx), s' = s → z = y → X s' hs' z = X s hs y := by
    intro s' hs' z e e2; subst e e2; rfl
  refine key _ _ _ (by omega) ?_
  funext a
  apply Fin.ext
  match a with
  | ⟨0, _⟩ => show (i 0).val % 256 = (y 0).val; omega
  | ⟨1, _⟩ => exact h1

/-- An array of 32 planes. -/
def planesOf (X : (s : ℕ) → s < 32 → Vec Ideal S1x128x256 .f32) : S32x128x256.Idx → EReal := fun i =>
  X (i 0).val (i 0).isLt (ix3 0 (i 1) (i 2))

/-- Reading it at a plane's place. -/
theorem planesOf_at (X : (s : ℕ) → s < 32 → Vec Ideal S1x128x256 .f32) (i : S32x128x256.Idx) (s : ℕ) (hs : s < 32) (y : S1x128x256.Idx)
    (h0 : (i 0).val = s) (h1 : (i 1).val = (y 1).val) (h2 : (i 2).val = (y 2).val) : planesOf X i = X s hs y := by
  have hy : (y 0).val < 1 := (y 0).isLt
  unfold planesOf
  have key : ∀ (s' : ℕ) (hs' : s' < 32) (z : S1x128x256.Idx), s' = s → z = y → X s' hs' z = X s hs y := by
    intro s' hs' z e e2; subst e e2; rfl
  refine key _ _ _ h0 ?_
  funext a
  apply Fin.ext
  match a with
  | ⟨0, _⟩ => show 0 = (y 0).val; omega
  | ⟨1, _⟩ => exact h1
  | ⟨2, _⟩ => exact h2

/-- An array of 32 blocks of 32 places for each of the sixteen experts. -/
def placesOf {n : ℕ} (X : (s : ℕ) → s < 32 → (⟨3, ![16, 32, n]⟩ : Shape).Idx → EReal) : (⟨3, ![16, 1024, n]⟩ : Shape).Idx → EReal := fun i =>
  X ((i 1).val / 32) (by have : (i 1).val < 1024 := (i 1).isLt; omega) (ix3 (i 0) ⟨(i 1).val % 32, by omega⟩ (i 2))

/-- Reading it at a block's place. -/
theorem placesOf_at {n : ℕ} (X : (s : ℕ) → s < 32 → (⟨3, ![16, 32, n]⟩ : Shape).Idx → EReal) (i : (⟨3, ![16, 1024, n]⟩ : Shape).Idx)
    (s : ℕ) (hs : s < 32) (y : (⟨3, ![16, 32, n]⟩ : Shape).Idx)
    (h0 : (i 0).val = (y 0).val) (h1 : (i 1).val = s * 32 + (y 1).val) (h2 : (i 2).val = (y 2).val) : placesOf X i = X s hs y := by
  have hy : (y 1).val < 32 := (y 1).isLt
  unfold placesOf
  have key : ∀ (s' : ℕ) (hs' : s' < 32) (z : (⟨3, ![16, 32, n]⟩ : Shape).Idx), s' = s → z = y → X s' hs' z = X s hs y := by
    intro s' hs' z e e2; subst e e2; rfl
  refine key _ _ _ (by omega) ?_
  funext a
  apply Fin.ext
  match a with
  | ⟨0, _⟩ => exact h0
  | ⟨1, _⟩ => show (i 1).val % 32 = (y 1).val; omega
  | ⟨2, _⟩ => exact h2

variable (V : (c : Dev nD) → (b : Ref sig .tc) → Buf (Elt Ideal) ((c : Thread nD τ).loc b))

/-- What the first call leaves in its first result, when each point leaves a block. -/
theorem final0_1 (c : Dev nD) (X : (s : ℕ) → s < 32 → Vec Ideal S256x128 .f32)
    (hX : ∀ t, ((dat0 V c).after 1 t : Vec Ideal S256x128 .f32) = X t.val (lt_sixteen t)) :
    (dat0 V c).arrAt 1 cfg0.N = rowsOf X := by
  refine (dat0 V c).arrAt_eq_of_covers 1 _ (by decide +kernel) fun t hf y => ?_
  obtain ⟨-, ⟨h0, h1⟩, -⟩ := idx_first t
  show ((dat0 V c).after 1 t : Vec Ideal S256x128 .f32) ((cfg0.win 1).xinj (cfg0.grid.coords t) y) = _
  rw [hX t]
  refine (rowsOf_at X _ t.val (lt_sixteen t) _ ?_ ?_).symm
  · show win0_1.index t (0 : Fin 2) * 256 + 1 * (y 0).val = t.val * 256 + (y 0).val; omega
  · show win0_1.index t (1 : Fin 2) * 128 + 1 * (y 1).val = (y 1).val; omega

/-- What it leaves in its third. -/
theorem final0_3 (c : Dev nD) (X : (s : ℕ) → s < 32 → Vec Ideal S1x128x256 .f32)
    (hX : ∀ t, ((dat0 V c).after 3 t : Vec Ideal S1x128x256 .f32) = X t.val (lt_sixteen t)) :
    (dat0 V c).arrAt 3 cfg0.N = planesOf X := by
  refine (dat0 V c).arrAt_eq_of_covers 3 _ (by decide +kernel) fun t hf y => ?_
  obtain ⟨-, -, h0, h1, h2⟩ := idx_first t
  have hy0 : (y 0).val < 1 := (y 0).isLt
  show ((dat0 V c).after 3 t : Vec Ideal S1x128x256 .f32) ((cfg0.win 3).xinj (cfg0.grid.coords t) y) = _
  rw [hX t]
  refine (planesOf_at X _ t.val (lt_sixteen t) _ ?_ ?_ ?_).symm
  · show win0_3.index t (0 : Fin 3) * 1 + 1 * (y 0).val = t.val; omega
  · show win0_3.index t (1 : Fin 3) * 128 + 1 * (y 1).val = (y 1).val; omega
  · show win0_3.index t (2 : Fin 3) * 256 + 1 * (y 2).val = (y 2).val; omega

/-- What the second call leaves in its first result, when each point leaves a block. -/
theorem final1_3 (c : Dev nD) (X : (s : ℕ) → s < 32 → Vec Ideal S16x32x2048 .bf16)
    (hX : ∀ t, ((dat1 V c).after 3 t : Vec Ideal S16x32x2048 .bf16) = X t.val (lt_sixteen' t)) :
    (dat1 V c).arrAt 3 cfg1.N = placesOf (n := 2048) X := by
  refine (dat1 V c).arrAt_eq_of_covers 3 _ (by decide +kernel) fun t hf y => ?_
  obtain ⟨-, -, -, ⟨h0, h1, h2⟩, -⟩ := idx_second t
  show ((dat1 V c).after 3 t : Vec Ideal S16x32x2048 .bf16) ((cfg1.win 3).xinj (cfg1.grid.coords t) y) = _
  rw [hX t]
  refine (placesOf_at (n := 2048) X _ t.val (lt_sixteen' t) _ ?_ ?_ ?_).symm
  · show win1_3.index t (0 : Fin 3) * 16 + 1 * (y 0).val = (y 0).val; omega
  · show win1_3.index t (1 : Fin 3) * 32 + 1 * (y 1).val = t.val * 32 + (y 1).val; omega
  · show win1_3.index t (2 : Fin 3) * 2048 + 1 * (y 2).val = (y 2).val; omega

/-- What it leaves in its second. -/
theorem final1_4 (c : Dev nD) (X : (s : ℕ) → s < 32 → Vec Ideal S16x32x128 .f32)
    (hX : ∀ t, ((dat1 V c).after 4 t : Vec Ideal S16x32x128 .f32) = X t.val (lt_sixteen' t)) :
    (dat1 V c).arrAt 4 cfg1.N = placesOf (n := 128) X := by
  refine (dat1 V c).arrAt_eq_of_covers 4 _ (by decide +kernel) fun t hf y => ?_
  obtain ⟨-, -, -, -, h0, h1, h2⟩ := idx_second t
  show ((dat1 V c).after 4 t : Vec Ideal S16x32x128 .f32) ((cfg1.win 4).xinj (cfg1.grid.coords t) y) = _
  rw [hX t]
  refine (placesOf_at (n := 128) X _ t.val (lt_sixteen' t) _ ?_ ?_ ?_).symm
  · show win1_4.index t (0 : Fin 3) * 16 + 1 * (y 0).val = (y 0).val; omega
  · show win1_4.index t (1 : Fin 3) * 32 + 1 * (y 1).val = t.val * 32 + (y 1).val; omega
  · show win1_4.index t (2 : Fin 3) * 128 + 1 * (y 2).val = (y 2).val; omega

/-- The second call's block of slots, when the array is made of planes. -/
theorem read1_1 (c : Dev nD) (X : (s : ℕ) → s < 32 → Vec Ideal S1x128x256 .f32) (hV : V c main_v0_2 = planesOf X) (t : Fin cfg1.N) :
    (iblk1 V c 1 t : Vec Ideal S1x128x256 .f32) = X t.val (lt_sixteen' t) := by
  obtain ⟨-, ⟨h0, h1, h2⟩, -⟩ := idx_second t
  funext y
  have hy0 : (y 0).val < 1 := (y 0).isLt
  unfold iblk1
  rw [View.read_apply]
  show V c main_v0_2 _ = _
  rw [hV]
  refine planesOf_at X _ t.val (lt_sixteen' t) y ?_ ?_ ?_
  · show win1_1.index t (0 : Fin 3) * 1 + 1 * (y 0).val = t.val; omega
  · show win1_1.index t (1 : Fin 3) * 128 + 1 * (y 1).val = (y 1).val; omega
  · show win1_1.index t (2 : Fin 3) * 256 + 1 * (y 2).val = (y 2).val; omega

/-- The second call's block of affinities, when the array is made of blocks. -/
theorem read1_2 (c : Dev nD) (X : (s : ℕ) → s < 32 → Vec Ideal S256x128 .f32) (hV : V c main_v0_0 = rowsOf X) (t : Fin cfg1.N) :
    (iblk1 V c 2 t : Vec Ideal S256x128 .f32) = X t.val (lt_sixteen' t) := by
  obtain ⟨-, -, ⟨h0, h1⟩, -⟩ := idx_second t
  funext y
  unfold iblk1
  rw [View.read_apply]
  show V c main_v0_0 _ = _
  rw [hV]
  refine rowsOf_at X _ t.val (lt_sixteen' t) y ?_ ?_
  · show win1_2.index t (0 : Fin 2) * 256 + 1 * (y 0).val = t.val * 256 + (y 0).val; omega
  · show win1_2.index t (1 : Fin 2) * 128 + 1 * (y 1).val = (y 1).val; omega

/-! ### The two calls -/

/-- The first call leaves the affinities' array. -/
theorem aff_final (c : Dev nD) : (dat0 (V0 m ρ) c).arrAt 1 cfg0.N = rowsOf fun s hs => out0_1 (lgBlk m c s hs) :=
  final0_1 (V0 m ρ) c (fun s hs => out0_1 (lgBlk m c s hs)) fun t => (after0_1 (V0 m ρ) c t).trans (congrArg out0_1 (blk0_0 m ρ c t))

/-- The first call leaves the slots' array. -/
theorem slot_final (c : Dev nD) : (dat0 (V0 m ρ) c).arrAt 3 cfg0.N = planesOf fun s hs => out0_3 (lgBlk m c s hs) :=
  final0_3 (V0 m ρ) c (fun s hs => out0_3 (lgBlk m c s hs)) fun t => (after0_3 (V0 m ρ) c t).trans (congrArg out0_3 (blk0_0 m ρ c t))

/-- The second call's block of rows at a point. -/
theorem blk1_0 (c : Dev nD) (t : Fin cfg1.N) :
    (iblk1 (V1 m ρ) c 0 t : Vec Ideal S256x2048 .bf16) = hBlk m c t.val (lt_sixteen' t) := by
  obtain ⟨⟨h0, h1⟩, -⟩ := idx_second t
  funext y
  unfold iblk1
  rw [View.read_apply]
  show W1 m ρ c (Proc.devRef .tc main_arg1) _ = m (c.tc.loc main_arg1) _
  rw [W1_args m ρ c main_arg1 (by decide)]
  show m (c.tc.loc main_arg1) _ = m (c.tc.loc main_arg1) _
  congr 1
  funext a
  apply Fin.ext
  match a with
  | ⟨0, _⟩ => show win1_0.index t 0 * 256 + 1 * (y 0).val = t.val * 256 + (y 0).val; omega
  | ⟨1, _⟩ => show win1_0.index t 1 * 2048 + 1 * (y 1).val = (y 1).val; omega

/-- The second call's block of slots at a point. -/
theorem blk1_1 (c : Dev nD) (t : Fin cfg1.N) :
    (iblk1 (V1 m ρ) c 1 t : Vec Ideal S1x128x256 .f32) = out0_3 (lgBlk m c t.val (lt_sixteen' t)) :=
  read1_1 (V1 m ρ) c (fun s hs => out0_3 (lgBlk m c s hs)) ((W1_arr m ρ c 3).trans (slot_final m ρ c)) t

/-- The second call's block of affinities at a point. -/
theorem blk1_2 (c : Dev nD) (t : Fin cfg1.N) :
    (iblk1 (V1 m ρ) c 2 t : Vec Ideal S256x128 .f32) = out0_1 (lgBlk m c t.val (lt_sixteen' t)) :=
  read1_2 (V1 m ρ) c (fun s hs => out0_1 (lgBlk m c s hs)) ((W1_arr m ρ c 1).trans (aff_final m ρ c)) t

/-- One sequence's affinities for one expert. -/
def affOf (c : Dev nD) (s : ℕ) (hs : s < 32) (e : Fin 16) : Fin 256 → EReal :=
  fun u => aff (fun k => lgBlk m c s hs (ix2 u k)) (e.castLE (by decide))

/-- The block of slots is the ranks'. -/
theorem slots_are (c : Dev nD) (s : ℕ) (hs : s < 32) (e : Fin 16) (t : Fin 256) :
    out0_3 (lgBlk m c s hs) (ix3 0 (e.castLE (by decide)) t) =
      if rank (affOf m c s hs e) t < 32 then ((rank (affOf m c s hs e) t : ℕ) : EReal) else -1 :=
  out0_3_apply (lgBlk m c s hs) e t

/-- One sequence's gathered rows: for an expert and a place, the picked token's. -/
def xBlk (c : Dev nD) (s : ℕ) (hs : s < 32) : Vec Ideal S16x32x2048 .bf16 := fun y =>
  hBlk m c s hs (ix2 (pick (affOf m c s hs (y 0)) ((y 1).castLE (by decide))) (y 2))

/-- One sequence's gathered affinities. -/
def gBlk (c : Dev nD) (s : ℕ) (hs : s < 32) : Vec Ideal S16x32x128 .f32 := fun y =>
  aff (fun k => lgBlk m c s hs (ix2 (pick (affOf m c s hs (y 0)) ((y 1).castLE (by decide))) k)) (y 2)

/-- The gathered rows' array. -/
def xArr (c : Dev nD) : S16x1024x2048.Idx → EReal := placesOf (n := 2048) (xBlk m c)
/-- The gathered affinities' array. -/
def gArr (c : Dev nD) : S16x1024x128.Idx → EReal := placesOf (n := 128) (gBlk m c)

/-- One sequence's block of gathered rows, from its logits and rows. -/
theorem xBlk_eq (c : Dev nD) (s : ℕ) (hs : s < 32) :
    out1_3 (hBlk m c s hs) (out0_3 (lgBlk m c s hs)) (out0_1 (lgBlk m c s hs)) = xBlk m c s hs := by
  funext y
  idx_vars y
  exact out1_3_pick (hBlk m c s hs) (out0_3 (lgBlk m c s hs)) (out0_1 (lgBlk m c s hs)) (affOf m c s hs) (slots_are m c s hs) _ _ _

/-- One sequence's block of gathered affinities. -/
theorem gBlk_eq (c : Dev nD) (s : ℕ) (hs : s < 32) :
    out1_4 (hBlk m c s hs) (out0_3 (lgBlk m c s hs)) (out0_1 (lgBlk m c s hs)) = gBlk m c s hs := by
  funext y
  idx_vars y
  refine (out1_4_pick (hBlk m c s hs) (out0_3 (lgBlk m c s hs)) (out0_1 (lgBlk m c s hs)) (affOf m c s hs) (slots_are m c s hs)
    (fun u l => ?_) _ _ _).trans ?_
  · rw [out0_1_apply]; exact aff_ne_top _ _
  · rw [out0_1_apply]; rfl

/-- Equal blocks give equal gathered rows. -/
theorem out1_3_congr {x0 y0 : Vec Ideal S256x2048 .bf16} {x1 y1 : Vec Ideal S1x128x256 .f32} {x2 y2 : Vec Ideal S256x128 .f32}
    (h0 : x0 = y0) (h1 : x1 = y1) (h2 : x2 = y2) : out1_3 (F := Ideal) x0 x1 x2 = out1_3 y0 y1 y2 := by
  subst h0 h1 h2; rfl

/-- Equal blocks give equal gathered affinities. -/
theorem out1_4_congr {x0 y0 : Vec Ideal S256x2048 .bf16} {x1 y1 : Vec Ideal S1x128x256 .f32} {x2 y2 : Vec Ideal S256x128 .f32}
    (h0 : x0 = y0) (h1 : x1 = y1) (h2 : x2 = y2) : out1_4 (F := Ideal) x0 x1 x2 = out1_4 y0 y1 y2 := by
  subst h0 h1 h2; rfl

/-- The second call leaves the gathered rows. -/
theorem x_final (c : Dev nD) : (dat1 (V1 m ρ) c).arrAt 3 cfg1.N = xArr m c :=
  final1_3 (V1 m ρ) c (xBlk m c) fun t => by
    rw [after1_3]
    refine Eq.trans ?_ (xBlk_eq m c t.val (lt_sixteen' t))
    exact out1_3_congr (blk1_0 m ρ c t) (blk1_1 m ρ c t) (blk1_2 m ρ c t)

/-- The second call leaves the gathered affinities. -/
theorem g_final (c : Dev nD) : (dat1 (V1 m ρ) c).arrAt 4 cfg1.N = gArr m c :=
  final1_4 (V1 m ρ) c (gBlk m c) fun t => by
    rw [after1_4]
    refine Eq.trans ?_ (gBlk_eq m c t.val (lt_sixteen' t))
    exact out1_4_congr (blk1_0 m ρ c t) (blk1_1 m ρ c t) (blk1_2 m ρ c t)

-- the launch's arguments are matched as the generated frame matches them
set_option backward.isDefEq.respectTransparency.types false in
/-- From any launch the program ends with the gathered rows and the gathered affinities in its two results, its arguments as they were. -/
theorem run : θ_run defs (onTc (τ := τ) (main (F := Ideal))) ⟨m, fun _ => 0, ρ⟩ (fun r => (∀ c : Dev nD,
      r.2.mem ((c.tc : Thread nD τ).loc main_v1_0) = xArr m c
      ∧ r.2.mem ((c.tc : Thread nD τ).loc main_v1_1) = gArr m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v1_0 (by decide))).trans ((W2_arr m ρ c 3).trans (x_final m ρ c)),
       (h c _ (mem_uc main_v1_1 (by decide))).trans ((W2_arr m ρ c 4).trans (g_final m ρ c)),
       (h c _ (mem_uc main_arg0 (by decide))).trans (W2_main_arg0 m ρ c),
       (h c _ (mem_uc main_arg1 (by decide))).trans (W2_main_arg1 m ρ c)⟩), funext fun g => hz g (.inr (no_unscoped g.2))⟩)

end Cert.RouteIdeal.Hand

end
-- ==== Proof.RouteRefAt.lean ====
module

public import proofs.«01_k».proof.Proof.Gen.RouteRefIdeal.Run
public import proofs.«01_k».proof.Proof.RouterBlock
public import Idealize.ShloMosaic.Lib.Tactic
public import Idealize.ShloMosaic.Lib.Pointwise
public import Idealize.ShloMosaic.PureOps.Ideal

@[expose] public section

set_option maxRecDepth 16384

noncomputable section

namespace Cert.RouteRefIdeal.Hand

open Cert.RouteRefIdeal Cert.RouteRefIdeal.Gen Cert.RouteRefIdeal.Value Idealize.ShloMosaic Idealize.ShloMosaic.TcCoe Idealize.SL.Sem
open Cert.Proof.Rank
open Cert.RouteIdeal.Hand (masked top aff bits_neg_inf slt_words select_ofBool)

/-- The reference's masked logits. -/
def refZ (x : FVec Ideal S16384x128 .f32) : FVec Ideal S32x256x128 .f32 :=
  select (broadcastInDim S32x256x128 ![2] bcast_S128_S32x256x128_2 (cmpi .slt (iotaInDim S128 32 0) (broadcastInDim S128 ![] bcast_S_S128 (constantI S_ 32 16#32)))) (shapeCast _ (extractStridedSlice S8192x128 ![0, 0] x slices_S16384x128_S8192x128_0_0) shapeCasts_S8192x128_S32x256x128) (broadcastInDim S32x256x128 ![] bcast_S_S32x256x128 (id (constant S_ .f32 0xFF800000#32)))

/-- The reference's exponentials, over masked logits. -/
def refE (z : FVec Ideal S32x256x128 .f32) : FVec Ideal S32x256x128 .f32 :=
  Host.exp (subf z (broadcastInDim S32x256x128 ![0, 1, 2] bcast_S32x256x1_S32x256x128_0_1_2 (broadcastInDim S32x256x1 ![0, 1] bcast_S32x256_S32x256x1_0_1 (maximumf (broadcastInDim S32x256 ![] bcast_S_S32x256 (constant S_ .f32 0xFF800000#32)) (Host.reduce FloatOps.maximumf z (constant S_ .f32 0xFF800000#32) reducesTo_S32x256x128_S32x256_d2 h_S_)))))

/-- The reference's affinities, over the exponentials. -/
def refA (E : FVec Ideal S32x256x128 .f32) : FVec Ideal S32x256x128 .f32 :=
  Host.divf E (broadcastInDim S32x256x128 ![0, 1, 2] bcast_S32x256x1_S32x256x128_0_1_2 (broadcastInDim S32x256x1 ![0, 1] bcast_S32x256_S32x256x1_0_1 (Host.reduceAdd E (constant S_ .f32 0x00000000#32) reducesTo_S32x256x128_S32x256_d2 h_S_)))

/-- The masked logits at an index. -/
theorem refZ_apply (x : FVec Ideal S16384x128 .f32) (s : Fin 32) (t : Fin 256) (l : Fin 128) :
    refZ x (ix3 s t l) = masked (fun k => x (ix2 ⟨s.val * 256 + t.val, by omega⟩ k)) l := by
  unfold refZ
  simp only [pointwise]
  simp only [id]
  rw [show (16#32) = BitVec.ofNat 32 16 from rfl]
  refine (congrArg (fun b => Scalar.select b _ _) (slt_words (a := l.val) (b := 16) (by omega) (by omega))).trans ?_
  rw [select_ofBool]
  rw [show ∀ i, (constant (F := Ideal) S_ .f32 0xFF800000#32) i = ⊥ from fun _ => bits_neg_inf]
  simp [masked]

/-- The exponentials at an index. -/
theorem refE_apply (z : FVec Ideal S32x256x128 .f32) (f : Fin 128 → EReal) (s : Fin 32) (t : Fin 256)
    (hz : ∀ l, z (ix3 s t l) = masked f l) (l : Fin 128) : refE z (ix3 s t l) = Ideal.exp (masked f l - top f) := by
  unfold refE
  simp only [pointwise]
  simp [hz, bits_neg_inf]
  rfl

/-- The affinities at an index. -/
theorem refA_apply (E : FVec Ideal S32x256x128 .f32) (f : Fin 128 → EReal) (s : Fin 32) (t : Fin 256)
    (hE : ∀ l, E (ix3 s t l) = Ideal.exp (masked f l - top f)) (l : Fin 128) : refA E (ix3 s t l) = aff f l := by
  unfold refA
  simp only [pointwise]
  simp [hE]
  rfl

end Cert.RouteRefIdeal.Hand
-- ==== Proof.RouteRefPick.lean ====
module

public import proofs.«01_k».proof.Proof.Gen.RouteRefIdeal.Run
public import proofs.«01_k».proof.Proof.RouterBlock
public import Idealize.ShloMosaic.Lib.Tactic
public import Idealize.ShloMosaic.Lib.Pointwise
public import Idealize.ShloMosaic.PureOps.Ideal

@[expose] public section

set_option maxRecDepth 16384

noncomputable section

namespace Cert.RouteRefIdeal.Hand

open Cert.RouteRefIdeal Cert.RouteRefIdeal.Gen Cert.RouteRefIdeal.Value Idealize.ShloMosaic Idealize.ShloMosaic.TcCoe Idealize.SL.Sem
open Cert.Proof.Rank
open Cert.RouteIdeal.Hand (masked top aff bits_neg_inf slt_words select_ofBool)

/-- The positions of each expert's greatest affinities. -/
def refI (A : FVec Ideal S32x256x128 .f32) : IVec S32x16x32 32 :=
  (Host.topK S32x16x32 2 (FloatOps.cmpfTotal .gt) (transpose S32x16x256 [0, 2, 1] (extractStridedSlice S32x256x16 ![0, 0, 0] A slices_S32x256x128_S32x256x16_0_0_0) transposes_S32x256x16_S32x16x256_0_2_1) sliceFits_S32x16x256_S32x16x32).2

/-- The positions as the gathers take them: a negative one counts from the end. -/
def refJ (I : IVec S32x16x32 32) : IVec S32x16x32x1 32 :=
  broadcastInDim S32x16x32x1 ![0, 1, 2] bcast_S32x16x32_S32x16x32x1_0_1_2 (select (cmpi .slt I (broadcastInDim S32x16x32 ![] bcast_S_S32x16x32 (constantI S_ 32 0#32))) (addi I (broadcastInDim S32x16x32 ![] bcast_S_S32x16x32 (constantI S_ 32 256#32))) I)

/-- The gate rows the reference returns, over the affinities and the positions. -/
def refG (A : FVec Ideal S32x256x128 .f32) (J : IVec S32x16x32x1 32) : FVec Ideal S16x1024x128 .f32 :=
  shapeCast _ (transpose S16x32x32x128 [1, 0, 2, 3] (Host.gather gather_S32x256x128_S32x16x32x1_S32x16x32x128_3_1_0_0_1_3_11128 A J) transposes_S32x16x32x128_S16x32x32x128_1_0_2_3) shapeCasts_S16x32x32x128_S16x1024x128

/-- The rows the reference returns, over the hidden rows and the positions. -/
def refX (h : FVec Ideal S16384x2048 .bf16) (J : IVec S32x16x32x1 32) : FVec Ideal S16x1024x2048 .bf16 :=
  truncf .bf16 (shapeCast _ (transpose S16x32x32x2048 [1, 0, 2, 3] (Host.gather gather_S32x256x2048_S32x16x32x1_S32x16x32x2048_3_1_0_0_1_3_112048 (shapeCast _ (extf .f32 (extractStridedSlice S8192x2048 ![0, 0] h slices_S16384x2048_S8192x2048_0_0) bitsLt_bf16_f32) shapeCasts_S8192x2048_S32x256x2048) J) transposes_S32x16x32x2048_S16x32x32x2048_1_0_2_3) shapeCasts_S16x32x32x2048_S16x1024x2048) bitsLt_bf16_f32

/-- Putting a number on the last axis of an index. -/
theorem along_last (s : Fin 32) (e : Fin 16) (j k : Fin 256) : (ix3 s e j : S32x16x256.Idx).along 2 k = ix3 s e k := by
  funext a
  match a with
  | ⟨0, _⟩ => rfl
  | ⟨1, _⟩ => rfl
  | ⟨2, _⟩ => rfl

/-- The number put on the last axis is what that axis reads. -/
theorem along_val (s : Fin 32) (e : Fin 16) (j k : Fin 256) : ((ix3 s e j : S32x16x256.Idx).along 2 k 2).val = k.val := by
  rw [along_last]
  rfl

/-- The sort's comparison of two places of a line is the strict order of their values, greater first. -/
theorem line_order (Y : FVec Ideal S32x16x256 .f32) (s : Fin 32) (e : Fin 16) (j : Fin 256) :
    (fun k k' : Fin 256 => FloatOps.cmpfTotal (F := Ideal) (φ := .f32) CmpDirection.gt
        (Y ((ix3 s e j : S32x16x256.Idx).along 2 k)) (Y ((ix3 s e j : S32x16x256.Idx).along 2 k')) == 1#1)
      = fun a b => decide (Y (ix3 s e b) < Y (ix3 s e a)) := by
  funext a b
  rw [along_last, along_last]
  show (BitVec.ofBool (decide (Y (ix3 s e b) < Y (ix3 s e a))) == 1#1) = _
  cases decide (Y (ix3 s e b) < Y (ix3 s e a)) <;> rfl

/-- The second component of the sort that carries the positions along. -/
theorem sorted_apply (Y : FVec Ideal S32x16x256 .f32) (s : Fin 32) (e : Fin 16) (j : Fin 256) :
    (Host.sort2 S32x16x256 2 (fun l r : EReal × BitVec 32 => FloatOps.cmpfTotal (F := Ideal) (φ := .f32) CmpDirection.gt l.1 r.1) Y
      (fun i => BitVec.ofNat 32 (i 2).val)).2 (ix3 s e j) = BitVec.ofNat 32 (pick (fun t => Y (ix3 s e t)) j).val := by
  unfold Host.sort2
  rw [dif_pos (by decide)]
  have hk : sortedFrom (fun k k' : Fin 256 => FloatOps.cmpfTotal (F := Ideal) (φ := .f32) CmpDirection.gt
        (Y ((ix3 s e j : S32x16x256.Idx).along 2 k)) (Y ((ix3 s e j : S32x16x256.Idx).along 2 k')) == 1#1) j
      = pick (fun t => Y (ix3 s e t)) j :=
    congrArg (fun R : Fin 256 → Fin 256 → Bool => sortedFrom R j) (line_order Y s e j)
  refine Eq.trans (b := BitVec.ofNat 32 (((ix3 s e j : S32x16x256.Idx).along 2
    (sortedFrom (fun k k' : Fin 256 => FloatOps.cmpfTotal (F := Ideal) (φ := .f32) CmpDirection.gt
        (Y ((ix3 s e j : S32x16x256.Idx).along 2 k))
        (Y ((ix3 s e j : S32x16x256.Idx).along 2 k')) == 1#1) j))
    2).val) rfl ?_
  refine (congrArg (BitVec.ofNat 32) (along_val s e j _)).trans ?_
  exact congrArg (fun k : Fin 256 => BitVec.ofNat 32 k.val) hk

/-- The transposed affinities' lines. -/
theorem lines_apply (A : FVec Ideal S32x256x128 .f32) (s : Fin 32) (e : Fin 16) (t : Fin 256) :
    transpose S32x16x256 [0, 2, 1] (extractStridedSlice S32x256x16 ![0, 0, 0] A slices_S32x256x128_S32x256x16_0_0_0) transposes_S32x256x16_S32x16x256_0_2_1 (ix3 s e t)
      = A (ix3 s t (e.castLE (by decide))) := by
  simp only [pointwise]
  exact congrArg A (funext fun a => by
    match a with
    | ⟨0, _⟩ => exact Fin.ext (Nat.zero_add s.val)
    | ⟨1, _⟩ => exact Fin.ext (Nat.zero_add t.val)
    | ⟨2, _⟩ => exact Fin.ext (Nat.zero_add e.val))

/-- The index word the greatest-k selection stores at a place is the position of the row of that rank. -/
theorem refI_apply (A : FVec Ideal S32x256x128 .f32) (s : Fin 32) (e : Fin 16) (p : Fin 32) :
    refI A (ix3 s e p) = BitVec.ofNat 32 (pick (fun t => A (ix3 s t (e.castLE (by decide)))) (p.castLE (by decide))).val := by
  rw [show (fun t => A (ix3 s t (e.castLE (by decide)))) = _ from funext fun t => (lines_apply A s e t).symm]
  unfold refI
  generalize (transpose S32x16x256 [0, 2, 1] (extractStridedSlice S32x256x16 ![0, 0, 0] A slices_S32x256x128_S32x256x16_0_0_0) transposes_S32x256x16_S32x16x256_0_2_1 : FVec Ideal S32x16x256 .f32) = Y
  refine Eq.trans ?_ (sorted_apply Y s e (p.castLE (by decide)))
  unfold Host.topK
  simp only [pointwise]
  have h3 : (ix3 ⟨0 + s.val, by omega⟩ ⟨0 + e.val, by omega⟩ ⟨0 + p.val, by omega⟩ : S32x16x256.Idx) = ix3 s e (p.castLE (by decide)) := by
    simp; rfl
  exact congrArg _ h3

/-- The index the gathers take is the selected position itself. -/
theorem refJ_apply (I : IVec S32x16x32 32) (s : Fin 32) (e : Fin 16) (p : Fin 32) (k : Fin 256)
    (hI : I (ix3 s e p) = BitVec.ofNat 32 k.val) (z : Fin 1) : refJ I (ix4 s e p z) = BitVec.ofNat 32 k.val := by
  unfold refJ
  simp only [pointwise]
  show Scalar.select (IntOp.cmpi .slt (I (ix3 s e p)) 0#32) (IntOp.addi (I (ix3 s e p)) 256#32) (I (ix3 s e p)) = _
  rw [hI]
  rw [show (0#32) = BitVec.ofNat 32 0 from rfl, slt_words (by omega) (by omega), select_ofBool]
  simp

/-- The record of a gather that takes, in each of the 32 batches, whole rows of 256 by an index. -/
abbrev rowDims (n : ℕ) (wf : GatherDims.WF ⟨3, ![32, 256, n]⟩ ⟨4, ![32, 16, 32, 1]⟩ ⟨4, ![32, 16, 32, n]⟩ [3] [1] [0] [1] [0] 3 ![1, 1, n]) :
    GatherDims ⟨3, ![32, 256, n]⟩ ⟨4, ![32, 16, 32, 1]⟩ ⟨4, ![32, 16, 32, n]⟩ where
  offsetDims := [3]
  collapsedSliceDims := [1]
  operandBatchingDims := [0]
  startIndicesBatchingDims := [0]
  startIndexMap := [1]
  indexVectorDim := 3
  sliceSizes := ![1, 1, n]
  wf := wf

/-- The gather of whole rows at an index whose word is a row's number. -/
theorem gather_rows_apply {α : Type} {n : ℕ} (wf : GatherDims.WF ⟨3, ![32, 256, n]⟩ ⟨4, ![32, 16, 32, 1]⟩ ⟨4, ![32, 16, 32, n]⟩ [3] [1] [0] [1] [0] 3 ![1, 1, n])
    (x : (⟨3, ![32, 256, n]⟩ : Shape).Idx → α) (idx : IVec ⟨4, ![32, 16, 32, 1]⟩ 32) (s : Fin 32) (e : Fin 16) (p : Fin 32) (d : Fin n)
    (k : Fin 256) (hk : idx (ix4 s e p (0 : Fin 1)) = BitVec.ofNat 32 k.val) :
    Host.gather (rowDims n wf) x idx (ix4 s e p d) = x (ix3 s k d) := by
  unfold Host.gather
  congr 1
  funext a
  refine Fin.ext ?_
  show (rowDims n wf).start (ix4 s e p d) idx a + (rowDims n wf).batchCoord (ix4 s e p d) a
      + (rowDims n wf).offCoord (ix4 s e p d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims n wf).startIndexMap from List.mem_singleton.mpr rfl)]
    have hsi : (rowDims n wf).siIdx (ix4 s e p d) ⟨List.idxOf (1 : Fin 3) (rowDims n wf).startIndexMap,
        List.idxOf_lt_length_iff.2 (List.mem_singleton.mpr rfl)⟩ = ix4 s e p (0 : Fin 1) := by
      funext b; refine Fin.ext ?_
      match b with
      | ⟨0, _⟩ => rfl
      | ⟨1, _⟩ => rfl
      | ⟨2, _⟩ => rfl
      | ⟨3, _⟩ => rfl
    rw [hsi, hk, WordCmp.toInt_ofNat_of_lt (by omega)]
    show min ((k.val : Int)).toNat (256 - 1) = k.val
    omega
  · rw [GatherDims.batchCoord_eq_zero _ _ _ (fun h => by simp at h)]
    have hm : (2 : Fin 3) ∉ (rowDims n wf).startIndexMap := by simp
    have hkk : (2 : Fin 3) ∈ (rowDims n wf).sKept := (GatherDims.mem_sKept _ _).mpr ⟨by simp, by simp⟩
    unfold GatherDims.start GatherDims.offCoord
    rw [dif_neg hm, dif_pos hkk]
    simp only [Nat.zero_add, Nat.add_zero]
    rfl

/-- The gate row at a place: the affinities of the selected row. -/
theorem refG_apply (A : FVec Ideal S32x256x128 .f32) (J : IVec S32x16x32x1 32) (e : Fin 16) (q : Fin 1024) (l : Fin 128)
    (s p : Fin 32) (hs : s.val = q.val / 32) (hp : p.val = q.val % 32) (k : Fin 256) (hk : J (ix4 s e p (0 : Fin 1)) = BitVec.ofNat 32 k.val) :
    refG A J (ix3 e q l) = A (ix3 s k l) := by
  unfold refG
  generalize hY : Host.gather gather_S32x256x128_S32x16x32x1_S32x16x32x128_3_1_0_0_1_3_11128 A J = Y
  have hy : Y (ix4 s e p l) = A (ix3 s k l) := by
    rw [← hY]; exact gather_rows_apply (n := 128) _ A J s e p l k hk
  rw [← hy]
  simp only [pointwise]
  exact congrArg₂ (fun a b => Y (ix4 a e b l)) (Fin.ext hs.symm) (Fin.ext hp.symm)

/-- The row at a place: the selected hidden row. -/
theorem refX_apply (h : FVec Ideal S16384x2048 .bf16) (J : IVec S32x16x32x1 32) (e : Fin 16) (q : Fin 1024) (l : Fin 2048)
    (s p : Fin 32) (hs : s.val = q.val / 32) (hp : p.val = q.val % 32) (k : Fin 256) (hk : J (ix4 s e p (0 : Fin 1)) = BitVec.ofNat 32 k.val) :
    refX h J (ix3 e q l) = h (ix2 ⟨s.val * 256 + k.val, by omega⟩ l) := by
  unfold refX
  generalize hH : (shapeCast _ (extf .f32 (extractStridedSlice S8192x2048 ![0, 0] h slices_S16384x2048_S8192x2048_0_0) bitsLt_bf16_f32) shapeCasts_S8192x2048_S32x256x2048 : FVec Ideal S32x256x2048 .f32) = H
  have hh : H (ix3 s k l) = h (ix2 ⟨s.val * 256 + k.val, by omega⟩ l) := by
    rw [← hH]; simp only [pointwise]; simp
  generalize hY : Host.gather gather_S32x256x2048_S32x16x32x1_S32x16x32x2048_3_1_0_0_1_3_112048 H J = Y
  have hy : Y (ix4 s e p l) = H (ix3 s k l) := by
    rw [← hY]; exact gather_rows_apply (n := 2048) _ H J s e p l k hk
  rw [← hh, ← hy]
  simp only [pointwise]
  exact congrArg₂ (fun a b => Y (ix4 a e b l)) (Fin.ext hs.symm) (Fin.ext hp.symm)

end Cert.RouteRefIdeal.Hand
-- ==== Proof.RouteClaims.lean ====
module

public import proofs.«01_k».proof.Defs
public import proofs.«01_k».proof.Proof.RouteRun
public import proofs.«01_k».proof.Proof.RouteRefAt
public import proofs.«01_k».proof.Proof.RouteRefPick
public import Idealize.ShloMosaic.Adequacy
public import Idealize.ShloMosaic.Init

@[expose] public section

set_option maxRecDepth 16384

noncomputable section

namespace Cert.Proof.RouteClaims

open Idealize.ShloMosaic Idealize.ShloMosaic.TcCoe Idealize.SL.Sem
open Cert.RouteIdeal.Hand (aff affOf xArr gArr)
open Cert.RouteRefIdeal.Hand (refZ refE refA refI refJ refG refX)
open Cert.Proof.Rank

/-- The reference's affinities at a sequence, a row and a lane. -/
theorem affinities (x : FVec Ideal Cert.RouteRefIdeal.S16384x128 .f32) (s : Fin 32) (t : Fin 256) (l : Fin 128) :
    refA (refE (refZ x)) (ix3 s t l) = aff (fun k => x (ix2 ⟨s.val * 256 + t.val, by omega⟩ k)) l :=
  Cert.RouteRefIdeal.Hand.refA_apply _ _ s t
    (fun l => Cert.RouteRefIdeal.Hand.refE_apply _ _ s t (fun l => Cert.RouteRefIdeal.Hand.refZ_apply x s t l) l) l

/-- The reference's position of the row of rank `p` for expert `e` in sequence `s`. -/
theorem positions (x : FVec Ideal Cert.RouteRefIdeal.S16384x128 .f32) (s : Fin 32) (e : Fin 16) (p : Fin 32) :
    refJ (refI (refA (refE (refZ x)))) (ix4 s e p (0 : Fin 1)) = BitVec.ofNat 32
      (pick (fun t : Fin 256 => aff (fun k => x (ix2 ⟨s.val * 256 + t.val, by omega⟩ k)) (e.castLE (by decide))) (p.castLE (by decide))).val := by
  refine Cert.RouteRefIdeal.Hand.refJ_apply _ s e p _ ?_ 0
  refine (Cert.RouteRefIdeal.Hand.refI_apply _ s e p).trans ?_
  rw [show (fun t : Fin 256 => refA (refE (refZ x)) (ix3 s t (e.castLE (by decide))))
    = fun t : Fin 256 => aff (fun k => x (ix2 ⟨s.val * 256 + t.val, by omega⟩ k)) (e.castLE (by decide)) from funext fun t => affinities x s t _]

variable (m : (ℓ : Loc Cert.RouteIdeal.nD Cert.RouteIdeal.τ Cert.RouteIdeal.sig) → Buf (Elt Ideal) ℓ)
  (m' : (ℓ : Loc Cert.RouteRefIdeal.nD Cert.RouteRefIdeal.τ Cert.RouteRefIdeal.sig) → Buf (Elt Ideal) ℓ)

/-- From arguments that agree the kernel's gathered rows are the reference's. -/
theorem rows_eq (c : Dev Cert.RouteIdeal.nD)
    (h0 : m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0))
    (h1 : m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)) :
    (Cert.RouteRefIdeal.Value.res_main_v38 (F := Ideal) m' c : Vec Ideal Cert.RouteIdeal.S16x1024x2048 .bf16) = xArr m c := by
  refine Eq.trans (b := refX (m' ((c.tc : Thread Cert.RouteRefIdeal.nD Cert.RouteRefIdeal.τ).loc Cert.RouteRefIdeal.main_arg1))
    (refJ (refI (refA (refE (refZ (m' ((c.tc : Thread Cert.RouteRefIdeal.nD Cert.RouteRefIdeal.τ).loc Cert.RouteRefIdeal.main_arg0)))))))) rfl ?_
  rw [h0, h1]
  funext i
  idx_vars i
  have hq := i1.isLt
  exact Cert.RouteRefIdeal.Hand.refX_apply _ _ i0 i1 i2 ⟨i1.val / 32, by omega⟩ ⟨i1.val % 32, by omega⟩ rfl rfl _ (positions _ _ _ _)

/-- From arguments that agree the kernel's gathered affinities are the reference's. -/
theorem gates_eq (c : Dev Cert.RouteIdeal.nD)
    (h0 : m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)) :
    (Cert.RouteRefIdeal.Value.res_main_v40 (F := Ideal) m' c : Vec Ideal Cert.RouteIdeal.S16x1024x128 .f32) = gArr m c := by
  refine Eq.trans (b := refG (refA (refE (refZ (m' ((c.tc : Thread Cert.RouteRefIdeal.nD Cert.RouteRefIdeal.τ).loc Cert.RouteRefIdeal.main_arg0)))))
    (refJ (refI (refA (refE (refZ (m' ((c.tc : Thread Cert.RouteRefIdeal.nD Cert.RouteRefIdeal.τ).loc Cert.RouteRefIdeal.main_arg0)))))))) rfl ?_
  rw [h0]
  funext i
  idx_vars i
  have hq := i1.isLt
  refine (Cert.RouteRefIdeal.Hand.refG_apply _ _ i0 i1 i2 ⟨i1.val / 32, by omega⟩ ⟨i1.val % 32, by omega⟩ rfl rfl _ (positions _ _ _ _)).trans ?_
  exact affinities _ _ _ _

/-- The routing kernel's ideal form and the reference's ideal form leave the same two arrays. -/
theorem algebraic : Cert.algebraic_RouteIdeal_RouteRefIdeal := fun m ρ m' ρ' _ hag =>
  ⟨fun c => xArr m c, fun c => gArr m c,
    (θ_run Cert.RouteIdeal.defs _ _).mono (fun _ h c => h.1 c) (Cert.RouteIdeal.Hand.run m ρ),
    (θ_run Cert.RouteRefIdeal.defs _ _).mono
      (fun _ h c => ⟨(h c).1.trans (rows_eq m m' c (hag c).1 (hag c).2), (h c).2.1.trans (gates_eq m m' c (hag c).1), (h c).2.2⟩)
      (Cert.RouteRefIdeal.Value.run (F := Ideal) m' ρ')⟩

end Cert.Proof.RouteClaims

end
-- ==== Proof.WinIdealTable.lean ====
module

public import proofs.«01_k».proof.Proof.Gen.WinIdeal.Frame.Runs
public import Idealize.ShloMosaic.Lib.StableHlo.Run
public import Idealize.ShloMosaic.PureOps.Ideal

@[expose] public section

set_option maxRecDepth 16384

noncomputable section

namespace Cert.WinIdeal.Hand

open Cert.WinIdeal Cert.WinIdeal.Gen Idealize.ShloMosaic Idealize.ShloMosaic.TcCoe Idealize.SL.Sem

variable {F : FTy → Type} [FloatOps F] (m : (ℓ : Loc nD τ sig) → Buf (Elt F) ℓ)

/-- The modulation row of each block of 1024 rows: row 0 for the first 8 blocks, then a row for each two blocks. -/
def conds : S16.Idx → BitVec 32 := fun x => lit0 (S16.rowMajor x)

set_option backward.proofsInPublic true in
/-- Those words as the table's contents. -/
def table : pre0.Contents (Elt F) := fun | ⟨0, _⟩ => conds | ⟨_ + 1, h⟩ => absurd h (by simp)

/-- The region finds those words in the table: the program itself writes them. -/
theorem tbl_eq : tbl m = table (F := F) := by
  funext j
  match j with
  | ⟨0, _⟩ =>
    show StableHlo.after hostOps0 (fun b => m (0, b)) main_c = conds
    after_results_simp
    rfl

/-- The table's rows are inside the modulations' array. -/
theorem ok (m : (ℓ : Loc nD τ sig) → Buf (Elt Ideal) ℓ) : Ok (F := Ideal) m := by
  unfold Ok
  rw [tbl_eq m]
  decide +kernel

end Cert.WinIdeal.Hand

end
-- ==== Proof.WinBody.lean ====
module

public import proofs.«01_k».proof.Proof.WinIdealTable
public import proofs.«01_k».proof.Proof.Gen.WinIdeal.Frame
public import Idealize.ShloMosaic.Lib.Tactic
public import Idealize.ShloMosaic.Lib.Pointwise
public import Idealize.ShloMosaic.Lib.MatmulPlain
public import Idealize.ShloMosaic.Lib.Pipeline.ValueKit.Tiles
public import Idealize.ShloMosaic.Lib.Pipeline.ValueKit.Geometry

@[expose] public section

set_option maxRecDepth 16384

noncomputable section

namespace Cert.WinIdeal.Hand

open Cert.WinIdeal Cert.WinIdeal.Gen Idealize.ShloMosaic Idealize.ShloMosaic.TcCoe Idealize.SL.Sem
open Idealize.ShloMosaic.Pipeline (Dat)

/-- A block's modulated rows at an index. -/
theorem pay1_apply (x : Vec Ideal S1024x2048 .f32) (sc sh : Vec Ideal S1x1x2048 .f32) (r : Fin 1024) (k : Fin 2048) :
    k0_pay1 (F := Ideal) x sc sh (ix2 r k) = x (ix2 r k) * (1 + sc (ix3 0 0 k)) + sh (ix3 0 0 k) := by
  unfold k0_pay1
  simp only [pointwise]
  simp

/-- A block's product at an index. -/
theorem pay2_apply (h : Vec Ideal S1024x2048 .bf16) (w : Vec Ideal S2048x512 .f32) (r : Fin 1024) (j : Fin 512) :
    k0_pay2 (F := Ideal) h w (ix2 r j) = ∑ k : Fin 2048, h (ix2 r k) * w (ix2 k j) := by
  unfold k0_pay2
  simp only [pointwise]
  simp

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first column block of a row block leaves the modulated rows in the scratch. -/
theorem sout_A (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .f32) (harg6 : arg6.IsWhole) (arg7 : Memref sig .tc .vmem S1024x512 .f32) (harg7 : arg7.IsWhole) (arg8 : Memref sig .tc .vmem S1024x2048 .bf16) (harg8 : arg8.IsWhole) (hc0 : cond0_0 i)
    (x0 : Vec F S1024x2048 .f32) (x1 : Vec F S1x1x2048 .f32) (x2 : Vec F S1x1x2048 .f32) (x3 : Vec F S2048x512 .f32) (xt0 : TbBuf0 (F := F) c tbM0_0) :
    sout0_A_0 c i arg3 harg3 arg4 harg4 arg5 harg5 arg6 harg6 arg7 harg7 arg8 harg8 hc0 x0 x1 x2 x3 xt0 = k0_pay1 x0 x1 x2 := by
  unfold sout0_A_0
  rw [View.read_writes_eq_canon _ _ _ (scover0_A_0 c i arg3 harg3 arg4 harg4 arg5 harg5 arg6 harg6 arg7 harg7 arg8 harg8 hc0 x0 x1 x2 x3 xt0)]
  unfold kernelRun0_A
  dsimp only
  sl_unfold_words
  rw [View.canon_unit_zero hz2]
  simp only [View.readAt_eq_ld, harg3.read_unread, harg4.read_unread, harg5.read_unread, View.ld_unit_zero (S := S1024x2048) hz2, View.ld_unit_zero (S := S1x1x2048) hz3]

/-- The first column block stores the product of the modulated rows. -/
theorem out_A (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .f32) (harg6 : arg6.IsWhole) (arg7 : Memref sig .tc .vmem S1024x512 .f32) (harg7 : arg7.IsWhole) (arg8 : Memref sig .tc .vmem S1024x2048 .bf16) (harg8 : arg8.IsWhole) (hc0 : cond0_0 i)
    (x0 : Vec F S1024x2048 .f32) (x1 : Vec F S1x1x2048 .f32) (x2 : Vec F S1x1x2048 .f32) (x3 : Vec F S2048x512 .f32) (xt0 : TbBuf0 (F := F) c tbM0_0) :
    out0_A_4 c i arg3 harg3 arg4 harg4 arg5 harg5 arg6 harg6 arg7 harg7 arg8 harg8 hc0 x0 x1 x2 x3 xt0 = k0_pay2 (k0_pay1 x0 x1 x2) x3 := by
  unfold out0_A_4
  rw [View.read_writes_eq_canon _ _ _ (cover0_A_4 c i arg3 harg3 arg4 harg4 arg5 harg5 arg6 harg6 arg7 harg7 arg8 harg8 hc0 x0 x1 x2 x3 xt0)]
  unfold kernelRun0_A
  dsimp only
  sl_unfold_words
  rw [View.canon_unit_zero hz2]
  have hread : ∀ w : Vec F S1024x2048 .bf16, arg8.view.readCov [(⟨Rect.unit ![0, 0] S1024x2048.size inb_S1024x2048_S1024x2048_0_0, w⟩ : View.Piece (Elt F) S1024x2048 .bf16)]
      (Rect.unit (s := S1024x2048) ![0, 0] S1024x2048.size inb_S1024x2048_S1024x2048_0_0).toLoadRect = w := by
    intro w
    rw [View.readCov_eq_canon', View.canon_unit_zero hz2]
    exact View.ld_unit_zero (S := S1024x2048) hz2 inb_S1024x2048_S1024x2048_0_0 w
  simp only [View.readAt_eq_ld, harg3.read_unread, harg4.read_unread, harg5.read_unread, harg6.read_unread, View.ld_unit_zero (S := S1024x2048) hz2, View.ld_unit_zero (S := S1x1x2048) hz3, View.ld_unit_zero (S := S2048x512) hz2, hread]

/-- Every other column block stores the product of the rows in the scratch. -/
theorem out_B (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .f32) (harg6 : arg6.IsWhole) (arg7 : Memref sig .tc .vmem S1024x512 .f32) (harg7 : arg7.IsWhole) (arg8 : Memref sig .tc .vmem S1024x2048 .bf16) (harg8 : arg8.IsWhole) (hc0 : ¬cond0_0 i)
    (x0 : Vec F S1024x2048 .f32) (x1 : Vec F S1x1x2048 .f32) (x2 : Vec F S1x1x2048 .f32) (x3 : Vec F S2048x512 .f32) (xt0 : TbBuf0 (F := F) c tbM0_0) (xs0 : Vec F S1024x2048 .bf16) :
    out0_B_4 c i arg3 harg3 arg4 harg4 arg5 harg5 arg6 harg6 arg7 harg7 arg8 harg8 hc0 x0 x1 x2 x3 xt0 xs0 = k0_pay2 xs0 x3 := by
  unfold out0_B_4
  rw [View.read_writes_eq_canon _ _ _ (cover0_B_4 c i arg3 harg3 arg4 harg4 arg5 harg5 arg6 harg6 arg7 harg7 arg8 harg8 hc0 x0 x1 x2 x3 xt0 xs0)]
  unfold kernelRun0_B
  dsimp only
  rw [View.canon_unit_zero hz2]
  simp only [View.readAt_eq_ld, harg6.read_unread, harg8.read_unread, View.ld_unit_zero (S := S1024x2048) hz2, View.ld_unit_zero (S := S2048x512) hz2]

end

end Cert.WinIdeal.Hand

end
-- ==== Proof.WinCols.lean ====
module

public import Idealize.ShloMosaic.Lib.Tactic
public import Idealize.ShloMosaic.PureOps.Ideal
public import Idealize.ShloMosaic.Lib.Pointwise

@[expose] public section

noncomputable section

namespace Cert.Proof.WinCols

open Idealize.ShloMosaic

/-- The order that the later calls take the projection's columns in, applied to a row of them: nine groups of the 5528
    columns, with 52 zeros after each of the two groups of 12. -/
def cols (f : Fin 5528 → EReal) (j : Fin 5632) : EReal :=
  if h : j.val < 1920 then f ⟨j.val, by omega⟩
  else if h : j.val < 1932 then f ⟨5504 + (j.val - 1920), by omega⟩
  else if h : j.val < 1984 then 0
  else if h : j.val < 1996 then f ⟨5516 + (j.val - 1984), by omega⟩
  else if h : j.val < 2048 then 0
  else if h : j.val < 2816 then f ⟨1920 + (j.val - 2048), by omega⟩
  else if h : j.val < 3584 then f ⟨2688 + (j.val - 2816), by omega⟩
  else if h : j.val < 3840 then f ⟨4992 + (j.val - 3584), by omega⟩
  else if h : j.val < 4608 then f ⟨3456 + (j.val - 3840), by omega⟩
  else if h : j.val < 5376 then f ⟨4224 + (j.val - 4608), by omega⟩
  else f ⟨5248 + (j.val - 5376), by omega⟩

/-- At each column the reordered row is one column of the row, or zero. -/
theorem cols_cases (j : Fin 5632) : (∃ c, ∀ f, cols f j = f c) ∨ ∀ f, cols f j = 0 := by
  by_cases h1 : j.val < 1920
  · exact .inl ⟨_, fun f => dif_pos h1⟩
  by_cases h2 : j.val < 1932
  · exact .inl ⟨_, fun f => (dif_neg h1).trans (dif_pos h2)⟩
  by_cases h3 : j.val < 1984
  · exact .inr fun f => (dif_neg h1).trans ((dif_neg h2).trans (dif_pos h3))
  by_cases h4 : j.val < 1996
  · exact .inl ⟨_, fun f => (dif_neg h1).trans ((dif_neg h2).trans ((dif_neg h3).trans (dif_pos h4)))⟩
  by_cases h5 : j.val < 2048
  · exact .inr fun f => (dif_neg h1).trans ((dif_neg h2).trans ((dif_neg h3).trans ((dif_neg h4).trans (dif_pos h5))))
  by_cases h6 : j.val < 2816
  · exact .inl ⟨_, fun f => (dif_neg h1).trans ((dif_neg h2).trans ((dif_neg h3).trans ((dif_neg h4).trans ((dif_neg h5).trans (dif_pos h6)))))⟩
  by_cases h7 : j.val < 3584
  · exact .inl ⟨_, fun f => (dif_neg h1).trans ((dif_neg h2).trans ((dif_neg h3).trans ((dif_neg h4).trans ((dif_neg h5).trans ((dif_neg h6).trans (dif_pos h7))))))⟩
  by_cases h8 : j.val < 3840
  · exact .inl ⟨_, fun f => (dif_neg h1).trans ((dif_neg h2).trans ((dif_neg h3).trans ((dif_neg h4).trans ((dif_neg h5).trans ((dif_neg h6).trans ((dif_neg h7).trans (dif_pos h8)))))))⟩
  by_cases h9 : j.val < 4608
  · exact .inl ⟨_, fun f => (dif_neg h1).trans ((dif_neg h2).trans ((dif_neg h3).trans ((dif_neg h4).trans ((dif_neg h5).trans ((dif_neg h6).trans ((dif_neg h7).trans ((dif_neg h8).trans (dif_pos h9))))))))⟩
  by_cases h10 : j.val < 5376
  · exact .inl ⟨_, fun f => (dif_neg h1).trans ((dif_neg h2).trans ((dif_neg h3).trans ((dif_neg h4).trans ((dif_neg h5).trans ((dif_neg h6).trans ((dif_neg h7).trans ((dif_neg h8).trans ((dif_neg h9).trans (dif_pos h10)))))))))⟩
  exact .inl ⟨_, fun f => (dif_neg h1).trans ((dif_neg h2).trans ((dif_neg h3).trans ((dif_neg h4).trans ((dif_neg h5).trans ((dif_neg h6).trans ((dif_neg h7).trans ((dif_neg h8).trans ((dif_neg h9).trans (dif_neg h10)))))))))⟩

/-- A sum of products with reordered columns is the reordered row of sums. -/
theorem sum_cols {n : ℕ} (h : Fin n → EReal) (w : Fin n → Fin 5528 → EReal) (j : Fin 5632) :
    (∑ k, h k * cols (w k) j) = cols (fun c => ∑ k, h k * w k c) j := by
  rcases cols_cases j with ⟨c, hc⟩ | h0
  · simp only [hc]
  · simp only [h0, mul_zero, Finset.sum_const_zero]

set_option maxHeartbeats 2000000 in
/-- Eleven column blocks side by side, nine of them the groups of a row's columns and two of them zeros, are the
    reordered row. -/
theorem eleven {n : ℕ}
    (a0 : (⟨2, ![n, 1920]⟩ : Shape).Idx → EReal)
    (a1 : (⟨2, ![n, 12]⟩ : Shape).Idx → EReal)
    (a2 : (⟨2, ![n, 52]⟩ : Shape).Idx → EReal)
    (a3 : (⟨2, ![n, 12]⟩ : Shape).Idx → EReal)
    (a4 : (⟨2, ![n, 52]⟩ : Shape).Idx → EReal)
    (a5 : (⟨2, ![n, 768]⟩ : Shape).Idx → EReal)
    (a6 : (⟨2, ![n, 768]⟩ : Shape).Idx → EReal)
    (a7 : (⟨2, ![n, 256]⟩ : Shape).Idx → EReal)
    (a8 : (⟨2, ![n, 768]⟩ : Shape).Idx → EReal)
    (a9 : (⟨2, ![n, 768]⟩ : Shape).Idx → EReal)
    (a10 : (⟨2, ![n, 256]⟩ : Shape).Idx → EReal)
    (hc : Shape.Concatenates [(⟨2, ![n, 1920]⟩ : Shape), (⟨2, ![n, 12]⟩ : Shape), (⟨2, ![n, 52]⟩ : Shape), (⟨2, ![n, 12]⟩ : Shape), (⟨2, ![n, 52]⟩ : Shape), (⟨2, ![n, 768]⟩ : Shape), (⟨2, ![n, 768]⟩ : Shape), (⟨2, ![n, 256]⟩ : Shape), (⟨2, ![n, 768]⟩ : Shape), (⟨2, ![n, 768]⟩ : Shape), (⟨2, ![n, 256]⟩ : Shape)] (⟨2, ![n, 5632]⟩ : Shape) 1)
    (k : Fin n) (f : Fin 5528 → EReal)
    (h0 : ∀ q : Fin 1920, a0 (ix2 k q) = f ⟨q.val, by omega⟩)
    (h1 : ∀ q : Fin 12, a1 (ix2 k q) = f ⟨5504 + q.val, by omega⟩)
    (h2 : ∀ q : Fin 52, a2 (ix2 k q) = 0)
    (h3 : ∀ q : Fin 12, a3 (ix2 k q) = f ⟨5516 + q.val, by omega⟩)
    (h4 : ∀ q : Fin 52, a4 (ix2 k q) = 0)
    (h5 : ∀ q : Fin 768, a5 (ix2 k q) = f ⟨1920 + q.val, by omega⟩)
    (h6 : ∀ q : Fin 768, a6 (ix2 k q) = f ⟨2688 + q.val, by omega⟩)
    (h7 : ∀ q : Fin 256, a7 (ix2 k q) = f ⟨4992 + q.val, by omega⟩)
    (h8 : ∀ q : Fin 768, a8 (ix2 k q) = f ⟨3456 + q.val, by omega⟩)
    (h9 : ∀ q : Fin 768, a9 (ix2 k q) = f ⟨4224 + q.val, by omega⟩)
    (h10 : ∀ q : Fin 256, a10 (ix2 k q) = f ⟨5248 + q.val, by omega⟩)
    (j : Fin 5632) :
    concatenate (⟨2, ![n, 5632]⟩ : Shape) 1 [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) = cols f j := by
  have off : ∀ {w : ℕ} (q : Fin w) (b : Fin 2), b ≠ 1 → (ix2 (n0 := n) (n1 := w) k q b).val = (ix2 (n0 := n) (n1 := 5632) k j b).val := by
    intro w q b hb
    match b with
    | ⟨0, _⟩ => rfl
    | ⟨1, _⟩ => exact absurd rfl hb
  by_cases c0 : j.val < 1920
  · refine Eq.trans ?_ ((h0 ⟨j.val, c0⟩).trans (show cols f j = f ⟨j.val, by omega⟩ from dif_pos c0).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 0 (by simp) ⟨2, ![n, 1920]⟩ a0 rfl rfl 0 (by simp) (ix2 k ⟨j.val, c0⟩) (fun b hb => off _ b hb) (show 0 + j.val = j.val by omega)
  by_cases c1 : j.val < 1932
  · refine Eq.trans ?_ ((h1 ⟨j.val - 1920, by omega⟩).trans ((dif_neg c0).trans (dif_pos c1)).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 1 (by simp) ⟨2, ![n, 12]⟩ a1 rfl rfl 1920 (by simp) (ix2 k ⟨j.val - 1920, by omega⟩) (fun b hb => off _ b hb) (show 1920 + (j.val - 1920) = j.val by omega)
  by_cases c2 : j.val < 1984
  · refine Eq.trans ?_ ((h2 ⟨j.val - 1932, by omega⟩).trans ((dif_neg c0).trans ((dif_neg c1).trans (dif_pos c2))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 2 (by simp) ⟨2, ![n, 52]⟩ a2 rfl rfl 1932 (by simp) (ix2 k ⟨j.val - 1932, by omega⟩) (fun b hb => off _ b hb) (show 1932 + (j.val - 1932) = j.val by omega)
  by_cases c3 : j.val < 1996
  · refine Eq.trans ?_ ((h3 ⟨j.val - 1984, by omega⟩).trans ((dif_neg c0).trans ((dif_neg c1).trans ((dif_neg c2).trans (dif_pos c3)))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 3 (by simp) ⟨2, ![n, 12]⟩ a3 rfl rfl 1984 (by simp) (ix2 k ⟨j.val - 1984, by omega⟩) (fun b hb => off _ b hb) (show 1984 + (j.val - 1984) = j.val by omega)
  by_cases c4 : j.val < 2048
  · refine Eq.trans ?_ ((h4 ⟨j.val - 1996, by omega⟩).trans ((dif_neg c0).trans ((dif_neg c1).trans ((dif_neg c2).trans ((dif_neg c3).trans (dif_pos c4))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 4 (by simp) ⟨2, ![n, 52]⟩ a4 rfl rfl 1996 (by simp) (ix2 k ⟨j.val - 1996, by omega⟩) (fun b hb => off _ b hb) (show 1996 + (j.val - 1996) = j.val by omega)
  by_cases c5 : j.val < 2816
  · refine Eq.trans ?_ ((h5 ⟨j.val - 2048, by omega⟩).trans ((dif_neg c0).trans ((dif_neg c1).trans ((dif_neg c2).trans ((dif_neg c3).trans ((dif_neg c4).trans (dif_pos c5)))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 5 (by simp) ⟨2, ![n, 768]⟩ a5 rfl rfl 2048 (by simp) (ix2 k ⟨j.val - 2048, by omega⟩) (fun b hb => off _ b hb) (show 2048 + (j.val - 2048) = j.val by omega)
  by_cases c6 : j.val < 3584
  · refine Eq.trans ?_ ((h6 ⟨j.val - 2816, by omega⟩).trans ((dif_neg c0).trans ((dif_neg c1).trans ((dif_neg c2).trans ((dif_neg c3).trans ((dif_neg c4).trans ((dif_neg c5).trans (dif_pos c6))))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 6 (by simp) ⟨2, ![n, 768]⟩ a6 rfl rfl 2816 (by simp) (ix2 k ⟨j.val - 2816, by omega⟩) (fun b hb => off _ b hb) (show 2816 + (j.val - 2816) = j.val by omega)
  by_cases c7 : j.val < 3840
  · refine Eq.trans ?_ ((h7 ⟨j.val - 3584, by omega⟩).trans ((dif_neg c0).trans ((dif_neg c1).trans ((dif_neg c2).trans ((dif_neg c3).trans ((dif_neg c4).trans ((dif_neg c5).trans ((dif_neg c6).trans (dif_pos c7)))))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 7 (by simp) ⟨2, ![n, 256]⟩ a7 rfl rfl 3584 (by simp) (ix2 k ⟨j.val - 3584, by omega⟩) (fun b hb => off _ b hb) (show 3584 + (j.val - 3584) = j.val by omega)
  by_cases c8 : j.val < 4608
  · refine Eq.trans ?_ ((h8 ⟨j.val - 3840, by omega⟩).trans ((dif_neg c0).trans ((dif_neg c1).trans ((dif_neg c2).trans ((dif_neg c3).trans ((dif_neg c4).trans ((dif_neg c5).trans ((dif_neg c6).trans ((dif_neg c7).trans (dif_pos c8))))))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 8 (by simp) ⟨2, ![n, 768]⟩ a8 rfl rfl 3840 (by simp) (ix2 k ⟨j.val - 3840, by omega⟩) (fun b hb => off _ b hb) (show 3840 + (j.val - 3840) = j.val by omega)
  by_cases c9 : j.val < 5376
  · refine Eq.trans ?_ ((h9 ⟨j.val - 4608, by omega⟩).trans ((dif_neg c0).trans ((dif_neg c1).trans ((dif_neg c2).trans ((dif_neg c3).trans ((dif_neg c4).trans ((dif_neg c5).trans ((dif_neg c6).trans ((dif_neg c7).trans ((dif_neg c8).trans (dif_pos c9)))))))))).symm)
    exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 9 (by simp) ⟨2, ![n, 768]⟩ a9 rfl rfl 4608 (by simp) (ix2 k ⟨j.val - 4608, by omega⟩) (fun b hb => off _ b hb) (show 4608 + (j.val - 4608) = j.val by omega)
  refine Eq.trans ?_ ((h10 ⟨j.val - 5376, by omega⟩).trans ((dif_neg c0).trans ((dif_neg c1).trans ((dif_neg c2).trans ((dif_neg c3).trans ((dif_neg c4).trans ((dif_neg c5).trans ((dif_neg c6).trans ((dif_neg c7).trans ((dif_neg c8).trans (dif_neg c9)))))))))).symm)
  exact concatenate_apply_piece (t := ⟨2, ![n, 5632]⟩) (1 : Fin 2) [⟨⟨2, ![n, 1920]⟩, a0⟩, ⟨⟨2, ![n, 12]⟩, a1⟩, ⟨⟨2, ![n, 52]⟩, a2⟩, ⟨⟨2, ![n, 12]⟩, a3⟩, ⟨⟨2, ![n, 52]⟩, a4⟩, ⟨⟨2, ![n, 768]⟩, a5⟩, ⟨⟨2, ![n, 768]⟩, a6⟩, ⟨⟨2, ![n, 256]⟩, a7⟩, ⟨⟨2, ![n, 768]⟩, a8⟩, ⟨⟨2, ![n, 768]⟩, a9⟩, ⟨⟨2, ![n, 256]⟩, a10⟩] hc (ix2 k j) 10 (by simp) ⟨2, ![n, 256]⟩ a10 rfl rfl 5376 (by simp) (ix2 k ⟨j.val - 5376, by omega⟩) (fun b hb => off _ b hb) (show 5376 + (j.val - 5376) = j.val by omega)

/-- The modulation row of a token: the context's 8192 tokens take the first, each 2048 of the others the next. -/
def condOf (r : Fin 16384) : Fin 8 :=
  if h : r.val < 8192 then 0 else ⟨1 + (r.val - 8192) / 2048, by omega⟩

/-- A token's row after its modulation. -/
def modulated (x : (⟨2, ![16384, 2048]⟩ : Shape).Idx → EReal) (sc sh : (⟨3, ![8, 1, 2048]⟩ : Shape).Idx → EReal)
    (r : Fin 16384) (k : Fin 2048) : EReal :=
  x (ix2 r k) * (1 + sc (ix3 (condOf r) 0 k)) + sh (ix3 (condOf r) 0 k)

end Cert.Proof.WinCols

end
-- ==== Proof.WinCall.lean ====
module

public import proofs.«01_k».proof.Proof.WinBody
public import proofs.«01_k».proof.Proof.WinCols

@[expose] public section

set_option maxRecDepth 16384

noncomputable section

namespace Cert.WinIdeal.Hand

open Cert.WinIdeal Cert.WinIdeal.Gen Idealize.ShloMosaic Idealize.ShloMosaic.TcCoe Idealize.SL.Sem
open Cert.Proof.WinCols (cols)

/-- Eleven column blocks side by side. -/
def joined (a0 : FVec Ideal S2048x1920 .f32) (a1 : FVec Ideal S2048x12 .f32) (a2 : FVec Ideal S2048x52 .f32) (a3 : FVec Ideal S2048x12 .f32) (a4 : FVec Ideal S2048x52 .f32) (a5 : FVec Ideal S2048x768 .f32) (a6 : FVec Ideal S2048x768 .f32) (a7 : FVec Ideal S2048x256 .f32) (a8 : FVec Ideal S2048x768 .f32) (a9 : FVec Ideal S2048x768 .f32) (a10 : FVec Ideal S2048x256 .f32) : FVec Ideal S2048x5632 .f32 :=
  concatenate S2048x5632 1 [⟨S2048x1920, a0⟩, ⟨S2048x12, a1⟩, ⟨S2048x52, a2⟩, ⟨S2048x12, a3⟩, ⟨S2048x52, a4⟩, ⟨S2048x768, a5⟩, ⟨S2048x768, a6⟩, ⟨S2048x256, a7⟩, ⟨S2048x768, a8⟩, ⟨S2048x768, a9⟩, ⟨S2048x256, a10⟩] concatenates_S2048x1920_S2048x12_S2048x52_S2048x12_S2048x52_S2048x768_S2048x768_S2048x256_S2048x768_S2048x768_S2048x256_S2048x5632_d1

/-- The weights in the order of the call. -/
def ordered (w : FVec Ideal S2048x5528 .f32) : FVec Ideal S2048x5632 .f32 :=
  joined
    (extractStridedSlice S2048x1920 ![0, 0] w slices_S2048x5528_S2048x1920_0_0)
    (extractStridedSlice S2048x12 ![0, 5504] w slices_S2048x5528_S2048x12_0_5504)
    (broadcastInDim S2048x52 ![] bcast_S_S2048x52 (constant (F := Ideal) S_ .f32 0x00000000#32))
    (extractStridedSlice S2048x12 ![0, 5516] w slices_S2048x5528_S2048x12_0_5516)
    (broadcastInDim S2048x52 ![] bcast_S_S2048x52 (constant (F := Ideal) S_ .f32 0x00000000#32))
    (extractStridedSlice S2048x768 ![0, 1920] w slices_S2048x5528_S2048x768_0_1920)
    (extractStridedSlice S2048x768 ![0, 2688] w slices_S2048x5528_S2048x768_0_2688)
    (extractStridedSlice S2048x256 ![0, 4992] w slices_S2048x5528_S2048x256_0_4992)
    (extractStridedSlice S2048x768 ![0, 3456] w slices_S2048x5528_S2048x768_0_3456)
    (extractStridedSlice S2048x768 ![0, 4224] w slices_S2048x5528_S2048x768_0_4224)
    (extractStridedSlice S2048x256 ![0, 5248] w slices_S2048x5528_S2048x256_0_5248)

/-- The weights in the order of the call, at an index. -/
theorem ordered_apply (w : FVec Ideal S2048x5528 .f32) (k : Fin 2048) (j : Fin 5632) :
    ordered w (ix2 k j) = cols (fun c => w (ix2 k c)) j := by
  unfold ordered joined
  refine Cert.Proof.WinCols.eleven (n := 2048) _ _ _ _ _ _ _ _ _ _ _ _ k (fun c => w (ix2 k c)) ?_ ?_ ?_ ?_ ?_ ?_ ?_ ?_ ?_ ?_ ?_ j <;> intro q <;> simp only [pointwise] <;>
    first
    | rfl
    | exact congrArg w (congrArg₂ ix2 (Fin.ext (Nat.zero_add _)) (Fin.ext rfl))
    | exact congrArg w (congrArg₂ ix2 (Fin.ext (Nat.zero_add _)) (Fin.ext (Nat.zero_add _)))

variable (m : (ℓ : Loc nD τ sig) → Buf (Elt Ideal) ℓ)

/-- The region finds the reordered weights. -/
theorem V_ordered (c : Dev nD) : V m c main_v10 = ordered (m ((c : Thread nD τ).loc main_arg3)) := by
  show StableHlo.after hostOps0 (fun b => m (c, b)) main_v10 = _
  after_results_simp
  unfold ordered
  show joined _ _ _ _ _ _ _ _ _ _ _ = joined _ _ _ _ _ _ _ _ _ _ _
  congr 1 <;> (try dsimp only [Matrix.cons_val]) <;> (try after_results_simp) <;> rfl

end Cert.WinIdeal.Hand

end
-- ==== Proof.WinRun.lean ====
module

public import proofs.«01_k».proof.Proof.WinCall
public import Idealize.ShloMosaic.Adequacy
public import Idealize.ShloMosaic.Init

@[expose] public section

set_option maxRecDepth 16384

noncomputable section

namespace Cert.WinIdeal.Hand

open Cert.WinIdeal Cert.WinIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Proof.WinCols (cols condOf modulated)

variable (m : (ℓ : Loc nD τ sig) → Buf (Elt Ideal) ℓ) (ρ : Dev nD → PrngReg)

/-- The tokens' rows. -/
abbrev xx (c : Dev nD) : S16384x2048.Idx → EReal := m ((c : Thread nD τ).loc main_arg0)
/-- The conditions' scales. -/
abbrev scs (c : Dev nD) : S8x1x2048.Idx → EReal := m ((c : Thread nD τ).loc main_arg1)
/-- The conditions' shifts. -/
abbrev shs (c : Dev nD) : S8x1x2048.Idx → EReal := m ((c : Thread nD τ).loc main_arg2)
/-- The weights. -/
abbrev ws (c : Dev nD) : S2048x5528.Idx → EReal := m ((c : Thread nD τ).loc main_arg3)

/-- The index maps that read no table. -/
theorem idx_plain : ∀ t : Fin grid0.N, (cc0_transform_0 (grid0.coords t) (0 : Fin 2) = t.val / 11 ∧ cc0_transform_0 (grid0.coords t) (1 : Fin 2) = 0)
    ∧ (cc0_transform_3 (grid0.coords t) (0 : Fin 2) = 0 ∧ cc0_transform_3 (grid0.coords t) (1 : Fin 2) = t.val % 11)
    ∧ (cc0_transform_4 (grid0.coords t) (0 : Fin 2) = t.val / 11 ∧ cc0_transform_4 (grid0.coords t) (1 : Fin 2) = t.val % 11) := by
  decide +kernel

/-- The index map of the scales. -/
theorem idx_scale : ∀ t : Fin grid0.N,
    (cc0_transform_1 k0_off1_inb numel1_S1 (table (F := Ideal)) (grid0.coords t) (0 : Fin 3) = (if t.val / 11 < 8 then 0 else 1 + (t.val / 11 - 8) / 2)
    ∧ cc0_transform_1 k0_off1_inb numel1_S1 (table (F := Ideal)) (grid0.coords t) (1 : Fin 3) = 0
    ∧ cc0_transform_1 k0_off1_inb numel1_S1 (table (F := Ideal)) (grid0.coords t) (2 : Fin 3) = 0) := by
  decide +kernel

/-- The index map of the shifts. -/
theorem idx_shift : ∀ t : Fin grid0.N,
    (cc0_transform_2 k0_off1_inb numel1_S1 (table (F := Ideal)) (grid0.coords t) (0 : Fin 3) = (if t.val / 11 < 8 then 0 else 1 + (t.val / 11 - 8) / 2)
    ∧ cc0_transform_2 k0_off1_inb numel1_S1 (table (F := Ideal)) (grid0.coords t) (1 : Fin 3) = 0
    ∧ cc0_transform_2 k0_off1_inb numel1_S1 (table (F := Ideal)) (grid0.coords t) (2 : Fin 3) = 0) := by
  decide +kernel

theorem lt_points (hO : Ok m) (t : Fin (cfgM m hO).N) : t.val < 176 := lt_of_lt_of_eq t.isLt N_0

/-- The token of a row of a row block. -/
def tok (t : ℕ) (ht : t < 176) (r : Fin 1024) : Fin 16384 := ⟨t / 11 * 1024 + r.val, by omega⟩

/-- The column of a column of a column block. -/
def col (t : ℕ) (j : Fin 512) : Fin 5632 := ⟨t % 11 * 512 + j.val, by omega⟩

/-- The tokens of a row block. -/
def xBlk (c : Dev nD) (t : ℕ) (ht : t < 176) : Vec Ideal S1024x2048 .f32 := fun y => xx m c (ix2 (tok t ht (y 0)) (y 1))
/-- The weights of a column block, in the order of the call. -/
def wBlk (c : Dev nD) (t : ℕ) : Vec Ideal S2048x512 .f32 := fun y => ordered (ws m c) (ix2 (y 0) (col t (y 1)))
/-- The scales of a row block. -/
def scBlk (c : Dev nD) (t : ℕ) (ht : t < 176) : Vec Ideal S1x1x2048 .f32 := fun y => scs m c (ix3 (condOf (tok t ht 0)) 0 (y 2))
/-- The shifts of a row block. -/
def shBlk (c : Dev nD) (t : ℕ) (ht : t < 176) : Vec Ideal S1x1x2048 .f32 := fun y => shs m c (ix3 (condOf (tok t ht 0)) 0 (y 2))

/-- The tokens' block at a point. -/
theorem blk_x (hO : Ok m) (c : Dev nD) (t : Fin (cfgM m hO).N) :
    (iblk m hO c 0 t : Vec Ideal S1024x2048 .f32) = xBlk m c t.val (lt_points m hO t) := by
  obtain ⟨⟨h0, h1⟩, -, -⟩ := idx_plain t
  funext y
  unfold iblk
  rw [View.read_apply]
  obtain ⟨z, rfl⟩ : ∃ z : S1024x2048.Idx, z = y := ⟨y, rfl⟩
  refine Eq.trans (congrFun (V_main_arg0 m c) _) ?_
  show m ((c : Thread nD τ).loc main_arg0) _ = m ((c : Thread nD τ).loc main_arg0) _
  congr 1
  funext a
  apply Fin.ext
  match a with
  | ⟨0, _⟩ => show cc0_transform_0 (grid0.coords t) 0 * 1024 + 1 * (z 0).val = t.val / 11 * 1024 + (z 0).val; omega
  | ⟨1, _⟩ => show cc0_transform_0 (grid0.coords t) 1 * 2048 + 1 * (z 1).val = (z 1).val; omega

/-- The weights' block at a point. -/
theorem blk_w (hO : Ok m) (c : Dev nD) (t : Fin (cfgM m hO).N) :
    (iblk m hO c 3 t : Vec Ideal S2048x512 .f32) = wBlk m c t.val := by
  obtain ⟨-, ⟨h0, h1⟩, -⟩ := idx_plain t
  funext y
  unfold iblk
  rw [View.read_apply]
  obtain ⟨z, rfl⟩ : ∃ z : S2048x512.Idx, z = y := ⟨y, rfl⟩
  refine Eq.trans (congrFun (V_ordered m c) _) ?_
  show ordered (ws m c) _ = ordered (ws m c) _
  congr 1
  funext a
  apply Fin.ext
  match a with
  | ⟨0, _⟩ => show cc0_transform_3 (grid0.coords t) 0 * 2048 + 1 * (z 0).val = (z 0).val; omega
  | ⟨1, _⟩ => show cc0_transform_3 (grid0.coords t) 1 * 512 + 1 * (z 1).val = t.val % 11 * 512 + (z 1).val; omega

/-- The row block's condition is its tokens'. -/
theorem condOf_tok (t : ℕ) (ht : t < 176) (r : Fin 1024) : (condOf (tok t ht r)).val = if t / 11 < 8 then 0 else 1 + (t / 11 - 8) / 2 := by
  have hr := r.isLt
  by_cases h : t / 11 < 8
  · have h' : (tok t ht r).val < 8192 := by show t / 11 * 1024 + r.val < 8192; omega
    unfold condOf
    rw [dif_pos h', if_pos h]
    rfl
  · have h' : ¬(tok t ht r).val < 8192 := by show ¬(t / 11 * 1024 + r.val < 8192); omega
    unfold condOf
    rw [dif_neg h', if_neg h]
    show 1 + (t / 11 * 1024 + r.val - 8192) / 2048 = 1 + (t / 11 - 8) / 2
    omega

/-- The scales' block at a point. -/
theorem blk_sc (hO : Ok m) (c : Dev nD) (t : Fin (cfgM m hO).N) :
    (iblk m hO c 1 t : Vec Ideal S1x1x2048 .f32) = scBlk m c t.val (lt_points m hO t) := by
  obtain ⟨h0, h1, h2⟩ := idx_scale t
  rw [← condOf_tok t.val (lt_points m hO t) 0] at h0
  rw [← tbl_eq m] at h0 h1 h2
  funext y
  unfold iblk
  rw [View.read_apply]
  obtain ⟨z, rfl⟩ : ∃ z : S1x1x2048.Idx, z = y := ⟨y, rfl⟩
  have y0 : (z 0).val < 1 := (z 0).isLt
  have y1 : (z 1).val < 1 := (z 1).isLt
  refine Eq.trans (congrFun (V_main_arg1 m c) _) ?_
  show m ((c : Thread nD τ).loc main_arg1) _ = m ((c : Thread nD τ).loc main_arg1) _
  congr 1
  funext a
  apply Fin.ext
  match a with
  | ⟨0, _⟩ => show cc0_transform_1 k0_off1_inb numel1_S1 (tbl m) (grid0.coords t) 0 * 1 + 1 * (z 0).val = (condOf (tok t.val (lt_points m hO t) 0)).val; omega
  | ⟨1, _⟩ => show cc0_transform_1 k0_off1_inb numel1_S1 (tbl m) (grid0.coords t) 1 * 1 + 1 * (z 1).val = 0; omega
  | ⟨2, _⟩ => show cc0_transform_1 k0_off1_inb numel1_S1 (tbl m) (grid0.coords t) 2 * 2048 + 1 * (z 2).val = (z 2).val; omega

/-- The shifts' block at a point. -/
theorem blk_sh (hO : Ok m) (c : Dev nD) (t : Fin (cfgM m hO).N) :
    (iblk m hO c 2 t : Vec Ideal S1x1x2048 .f32) = shBlk m c t.val (lt_points m hO t) := by
  obtain ⟨h0, h1, h2⟩ := idx_shift t
  rw [← condOf_tok t.val (lt_points m hO t) 0] at h0
  rw [← tbl_eq m] at h0 h1 h2
  funext y
  unfold iblk
  rw [View.read_apply]
  obtain ⟨z, rfl⟩ : ∃ z : S1x1x2048.Idx, z = y := ⟨y, rfl⟩
  have y0 : (z 0).val < 1 := (z 0).isLt
  have y1 : (z 1).val < 1 := (z 1).isLt
  refine Eq.trans (congrFun (V_main_arg2 m c) _) ?_
  show m ((c : Thread nD τ).loc main_arg2) _ = m ((c : Thread nD τ).loc main_arg2) _
  congr 1
  funext a
  apply Fin.ext
  match a with
  | ⟨0, _⟩ => show cc0_transform_2 k0_off1_inb numel1_S1 (tbl m) (grid0.coords t) 0 * 1 + 1 * (z 0).val = (condOf (tok t.val (lt_points m hO t) 0)).val; omega
  | ⟨1, _⟩ => show cc0_transform_2 k0_off1_inb numel1_S1 (tbl m) (grid0.coords t) 1 * 1 + 1 * (z 1).val = 0; omega
  | ⟨2, _⟩ => show cc0_transform_2 k0_off1_inb numel1_S1 (tbl m) (grid0.coords t) 2 * 2048 + 1 * (z 2).val = (z 2).val; omega

/-- The rows that a row block's points keep: its tokens', modulated. -/
def kept (c : Dev nD) (t : ℕ) (ht : t < 176) : Vec Ideal S1024x2048 .bf16 :=
  fun y => modulated (xx m c) (scs m c) (shs m c) (tok t ht (y 0)) (y 1)

/-- The first payload of a row block's arrays is those rows. -/
theorem pay_blocks (c : Dev nD) (t : ℕ) (ht : t < 176) :
    k0_pay1 (F := Ideal) (xBlk m c t ht) (scBlk m c t ht) (shBlk m c t ht) = kept m c t ht := by
  funext y
  idx_vars y
  refine (pay1_apply (xBlk m c t ht) (scBlk m c t ht) (shBlk m c t ht) _ _).trans ?_
  have e : condOf (tok t ht 0) = condOf (tok t ht y0) := Fin.ext ((condOf_tok t ht 0).trans (condOf_tok t ht y0).symm)
  show xx m c (ix2 (tok t ht y0) y1) * (1 + scs m c (ix3 (condOf (tok t ht 0)) 0 y1)) + shs m c (ix3 (condOf (tok t ht 0)) 0 y1)
    = xx m c (ix2 (tok t ht y0) y1) * (1 + scs m c (ix3 (condOf (tok t ht y0)) 0 y1)) + shs m c (ix3 (condOf (tok t ht y0)) 0 y1)
  rw [e]

/-- The payload of a row block's first point is those rows. -/
theorem pay_kept (hO : Ok m) (c : Dev nD) (t : Fin (cfgM m hO).N) :
    k0_pay1 (F := Ideal) (iblk m hO c 0 t) (iblk m hO c 1 t) (iblk m hO c 2 t) = kept m c t.val (lt_points m hO t) :=
  (congr (congrArg₂ (k0_pay1 (F := Ideal)) (blk_x m hO c t) (blk_sc m hO c t)) (blk_sh m hO c t)).trans (pay_blocks m c t.val (lt_points m hO t))

theorem kept_congr (c : Dev nD) (t t' : ℕ) (ht : t < 176) (ht' : t' < 176) (h : t / 11 = t' / 11) : kept m c t ht = kept m c t' ht' := by
  have : ∀ r, tok t ht r = tok t' ht' r := fun r => Fin.ext (by show t / 11 * 1024 + r.val = t' / 11 * 1024 + r.val; rw [h])
  funext y
  exact congrArg (fun s => modulated (xx m c) (scs m c) (shs m c) s (y 1)) (this (y 0))

/-- The first point of a row block leaves the modulated rows. -/
theorem scratch_first (hO : Ok m) (c : Dev nD) (t : Fin (cfgM m hO).N) (h0 : t.val % 11 = 0) :
    (outsAt0 m hO c t.val t.isLt).2 = kept m c t.val (lt_points m hO t) := by
  rw [outsAt0_A m hO c t h0]
  dsimp only
  exact (sout_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (iblk m hO c 0 t) (iblk m hO c 1 t) (iblk m hO c 2 t) (iblk m hO c 3 t) (tbl m 0)).trans (pay_kept m hO c t)

/-- The other points leave what the point before left. -/
theorem scratch_next (hO : Ok m) (c : Dev nD) (t : Fin (cfgM m hO).N) (h0 : ¬t.val % 11 = 0) :
    (outsAt0 m hO c t.val t.isLt).2 = (outsAt0 m hO c (t.val - 1) (Nat.lt_of_le_of_lt (Nat.sub_le _ _) t.isLt)).2 := by
  rw [outsAt0_B m hO c t h0]
  dsimp only
  unfold sout0_B_0
  rfl

/-- After every point the scratch holds the row block's modulated rows. -/
theorem scratch (hO : Ok m) (c : Dev nD) : ∀ (n : ℕ) (hn : n < (cfgM m hO).N), (outsAt0 m hO c n hn).2 = kept m c n (lt_of_lt_of_eq hn N_0) := by
  intro n
  induction n with
  | zero => exact fun hn => scratch_first m hO c ⟨0, hn⟩ (Nat.zero_mod _)
  | succ n ih =>
    intro hn
    by_cases h0 : (n + 1) % 11 = 0
    · exact scratch_first m hO c ⟨n + 1, hn⟩ h0
    · exact (scratch_next m hO c ⟨n + 1, hn⟩ h0).trans ((ih (Nat.lt_of_succ_lt hn)).trans (kept_congr m c _ _ _ _ (by omega)))

/-- The first point of a row block stores its rows' products with its columns. -/
theorem stored_first (hO : Ok m) (c : Dev nD) (t : Fin (cfgM m hO).N) (h0 : t.val % 11 = 0) :
    (outsAt0 m hO c t.val t.isLt).1 = k0_pay2 (F := Ideal) (kept m c t.val (lt_points m hO t)) (wBlk m c t.val) := by
  rw [outsAt0_A m hO c t h0]
  dsimp only
  exact (out_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (iblk m hO c 0 t) (iblk m hO c 1 t) (iblk m hO c 2 t) (iblk m hO c 3 t) (tbl m 0)).trans (congrArg₂ (k0_pay2 (F := Ideal)) (pay_kept m hO c t) (blk_w m hO c t))

/-- So do the others. -/
theorem stored_next (hO : Ok m) (c : Dev nD) (t : Fin (cfgM m hO).N) (h0 : ¬t.val % 11 = 0) :
    (outsAt0 m hO c t.val t.isLt).1 = k0_pay2 (F := Ideal) (kept m c t.val (lt_points m hO t)) (wBlk m c t.val) := by
  rw [outsAt0_B m hO c t h0]
  dsimp only
  have hk := (scratch m hO c (t.val - 1) (Nat.lt_of_le_of_lt (Nat.sub_le _ _) t.isLt)).trans
    (kept_congr m c _ t.val _ (lt_points m hO t) (by omega))
  exact (out_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2).trans (congrArg₂ (k0_pay2 (F := Ideal)) hk (blk_w m hO c t))

/-- Every point stores its rows' products with its columns. -/
theorem stored (hO : Ok m) (c : Dev nD) (t : Fin (cfgM m hO).N) :
    (outsAt0 m hO c t.val t.isLt).1 = k0_pay2 (F := Ideal) (kept m c t.val (lt_points m hO t)) (wBlk m c t.val) := by
  by_cases h0 : t.val % 11 = 0
  · exact stored_first m hO c t h0
  · exact stored_next m hO c t h0

/-- The projection in the order of the call. -/
def result (c : Dev nD) : S16384x5632.Idx → EReal := fun i =>
  cols (fun q => ∑ k : Fin 2048, modulated (xx m c) (scs m c) (shs m c) (i 0) k * ws m c (ix2 k q)) (i 1)

/-- A point's products at an index. -/
theorem stored_at (c : Dev nD) (t : ℕ) (ht : t < 176) (r : Fin 1024) (j : Fin 512) :
    k0_pay2 (F := Ideal) (kept m c t ht) (wBlk m c t) (ix2 r j) = result m c (ix2 (tok t ht r) (col t j)) := by
  refine (pay2_apply (kept m c t ht) (wBlk m c t) r j).trans ?_
  refine Eq.trans ?_ (Cert.Proof.WinCols.sum_cols (modulated (xx m c) (scs m c) (shs m c) (tok t ht r)) (fun k q => ws m c (ix2 k q)) (col t j))
  refine Finset.sum_congr rfl fun k _ => ?_
  show modulated (xx m c) (scs m c) (shs m c) (tok t ht r) k * ordered (ws m c) (ix2 k (col t j)) = _
  rw [ordered_apply]

/-- Where a point's block places an index of it. -/
theorem placed (hO : Ok m) (t : Fin (cfgM m hO).N) (y : S1024x512.Idx) :
    ((((cfgM m hO).win 4).blk t).view.emb y : S16384x5632.Idx) = ix2 (tok t.val (lt_points m hO t) (y 0)) (col t.val (y 1)) := by
  obtain ⟨-, -, h0, h1⟩ := idx_plain t
  funext a
  apply Fin.ext
  match a with
  | ⟨0, _⟩ => show cc0_transform_4 (grid0.coords t) 0 * 1024 + 1 * (y 0).val = t.val / 11 * 1024 + (y 0).val; omega
  | ⟨1, _⟩ => show cc0_transform_4 (grid0.coords t) 1 * 512 + 1 * (y 1).val = t.val % 11 * 512 + (y 1).val; omega

/-- The points' blocks cover the result. -/
theorem covered (hO : Ok m) (i : S16384x5632.Idx) :
    ∃ t : Fin (cfgM m hO).N, ((cfgM m hO).win 4).flush t = true ∧ i ∈ (((cfgM m hO).win 4).blk t).view.set := by
  have hi0 : (i 0).val < 16384 := (i 0).isLt
  have hi1 : (i 1).val < 5632 := (i 1).isLt
  have ht : (i 0).val / 1024 * 11 + (i 1).val / 512 < (cfgM m hO).N := lt_of_lt_of_eq (by omega : _ < 176) N_0.symm
  refine ⟨⟨(i 0).val / 1024 * 11 + (i 1).val / 512, ht⟩, flush0_4 _ _, ?_⟩
  generalize hT : (⟨(i 0).val / 1024 * 11 + (i 1).val / 512, ht⟩ : Fin (cfgM m hO).N) = T
  have hv : T.val = (i 0).val / 1024 * 11 + (i 1).val / 512 := by rw [← hT]
  obtain ⟨-, -, h0, h1⟩ := idx_plain T
  refine Finset.mem_map.2 ⟨(ix2 ⟨(i 0).val % 1024, by omega⟩ ⟨(i 1).val % 512, by omega⟩ : S1024x512.Idx), Finset.mem_univ _, (placed m hO T _).trans ?_⟩
  funext a
  apply Fin.ext
  match a with
  | ⟨0, _⟩ => show T.val / 11 * 1024 + (i 0).val % 1024 = (i 0).val; omega
  | ⟨1, _⟩ => show T.val % 11 * 512 + (i 1).val % 512 = (i 1).val; omega

/-- The call's result. -/
theorem final (hO : Ok m) (c : Dev nD) : (dats m hO 0 c).arrAt 4 (cfgM m hO).N = result m c := by
  refine (dats m hO 0 c).arrAt_eq_of_emb 4 (result m c) (fun t hf y => ?_) (covered m hO)
  show ((dats m hO 0 c).after 4 t : Vec Ideal S1024x512 .f32) y = _
  refine (congrFun ((after0_4 m hO c t).trans (stored m hO c t)) y).trans ?_
  refine Eq.trans ?_ (congrArg (result m c) (placed m hO t y)).symm
  exact (congrArg (k0_pay2 (F := Ideal) (kept m c t.val (lt_points m hO t)) (wBlk m c t.val)) (eq_ix2 (n0 := 1024) (n1 := 512) y)).trans (stored_at m c t.val (lt_points m hO t) _ _)

/-- The run: the result is the projection, the arguments are unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final m (ok m) c), h.2 c⟩)
    (θ_run_and (run_main m ρ (ok m)) (unchanged m ρ (ok m)))

end Cert.WinIdeal.Hand

end
-- ==== Proof.WinTable.lean ====
module

public import proofs.«01_k».proof.Proof.Gen.Win.Frame.Runs
public import Idealize.ShloMosaic.Lib.StableHlo.Run
public import Idealize.ShloMosaic.PureOps.BitExact

@[expose] public section

set_option maxRecDepth 16384

noncomputable section

namespace Cert.Win.Hand

open Cert.Win Cert.Win.Gen Idealize.ShloMosaic Idealize.ShloMosaic.TcCoe Idealize.SL.Sem

variable {F : FTy → Type} [FloatOps F] (m : (ℓ : Loc nD τ sig) → Buf (Elt F) ℓ)

/-- The modulation row of each block of 1024 rows: row 0 for the first 8 blocks, then a row for each two blocks. -/
def conds : S16.Idx → BitVec 32 := fun x => lit0 (S16.rowMajor x)

set_option backward.proofsInPublic true in
/-- Those words as the table's contents. -/
def table : pre0.Contents (Elt F) := fun | ⟨0, _⟩ => conds | ⟨_ + 1, h⟩ => absurd h (by simp)

/-- The region finds those words in the table: the program itself writes them. -/
theorem tbl_eq : tbl m = table (F := F) := by
  funext j
  match j with
  | ⟨0, _⟩ =>
    show StableHlo.after hostOps0 (fun b => m (0, b)) main_c = conds
    after_results_simp
    rfl

/-- The table's rows are inside the modulations' array. -/
theorem ok (m : (ℓ : Loc nD τ sig) → Buf (Elt Bits) ℓ) : Ok (F := Bits) m := by
  unfold Ok
  rw [tbl_eq m]
  decide +kernel

end Cert.Win.Hand

end
-- ==== Proof.WinRefAt.lean ====
module

public import proofs.«01_k».proof.Proof.Gen.WinRefIdeal.Run
public import proofs.«01_k».proof.Proof.WinCols
public import Idealize.ShloMosaic.Lib.Pointwise

@[expose] public section

set_option maxRecDepth 16384

noncomputable section

namespace Cert.WinRefIdeal.Hand

open Cert.WinRefIdeal Cert.WinRefIdeal.Gen Cert.WinRefIdeal.Value Idealize.ShloMosaic Idealize.ShloMosaic.TcCoe
open Cert.Proof.WinCols (cols condOf modulated eleven)

/-- The context's rows of modulations. -/
def ctxRows (v : FVec Ideal S8x1x2048 .f32) : FVec Ideal S8192x2048 .f32 :=
  broadcastInDim S8192x2048 ![0, 1] bcast_S1x2048_S8192x2048_0_1 (shapeCast _ (extractStridedSlice S1x1x2048 ![0, 0, 0] v slices_S8x1x2048_S1x1x2048_0_0_0) shapeCasts_S1x1x2048_S1x2048)

/-- The other tokens' rows of modulations. -/
def frmRows (v : FVec Ideal S8x1x2048 .f32) : FVec Ideal S8192x2048 .f32 :=
  shapeCast _ (broadcastInDim S4x2048x2048 ![0, 1, 2] bcast_S4x1x2048_S4x2048x2048_0_1_2 (extractStridedSlice S4x1x2048 ![1, 0, 0] v slices_S8x1x2048_S4x1x2048_1_0_0)) shapeCasts_S4x2048x2048_S8192x2048

/-- A row of modulations for every token. -/
def rows (v : FVec Ideal S8x1x2048 .f32) : FVec Ideal S16384x2048 .f32 :=
  concatenate S16384x2048 0 [⟨S8192x2048, ctxRows v⟩, ⟨S8192x2048, frmRows v⟩] concatenates_S8192x2048_S8192x2048_S16384x2048_d0

/-- The context's rows are the first modulation. -/
theorem ctxRows_apply (v : FVec Ideal S8x1x2048 .f32) (r : Fin 8192) (k : Fin 2048) :
    ctxRows v (ix2 r k) = v (ix3 0 0 k) := by
  unfold ctxRows
  simp only [pointwise]
  exact congrArg v (congrArg (ix3 0 0) (Fin.ext (by simp)))

/-- Each 2048 of the other rows are the next modulation. -/
theorem frmRows_apply (v : FVec Ideal S8x1x2048 .f32) (r : Fin 8192) (k : Fin 2048) :
    frmRows v (ix2 r k) = v (ix3 ⟨1 + r.val / 2048, by omega⟩ 0 k) := by
  unfold frmRows
  simp only [pointwise]
  exact congrArg v (congr (congrArg₂ ix3 (Fin.ext (by simp)) rfl) (Fin.ext (by simp)))

/-- Each token's row of modulations is its condition's. -/
theorem rows_apply (v : FVec Ideal S8x1x2048 .f32) (r : Fin 16384) (k : Fin 2048) :
    rows v (ix2 r k) = v (ix3 (condOf r) 0 k) := by
  unfold rows condOf
  by_cases h : r.val < 8192
  · rw [dif_pos h]
    refine (concatenate_pair_apply_left (t := S16384x2048) (s₁ := S8192x2048) (s₂ := S8192x2048) (0 : Fin 2) (ctxRows v) (frmRows v) concatenates_S8192x2048_S8192x2048_S16384x2048_d0 (ix2 r k) rfl (ix2 ⟨r.val, h⟩ k) (fun b => ?_)).trans (ctxRows_apply v _ k)
    match b with
    | ⟨0, _⟩ => rfl
    | ⟨1, _⟩ => rfl
  · rw [dif_neg h]
    refine (concatenate_pair_apply_right (t := S16384x2048) (s₁ := S8192x2048) (s₂ := S8192x2048) (0 : Fin 2) (ctxRows v) (frmRows v) concatenates_S8192x2048_S8192x2048_S16384x2048_d0 (ix2 r k) rfl rfl (ix2 ⟨r.val - 8192, by omega⟩ k) (fun b hb => ?_) ?_).trans (frmRows_apply v _ k)
    · match b with
      | ⟨0, _⟩ => exact absurd rfl hb
      | ⟨1, _⟩ => rfl
    · show r.val - 8192 + 8192 = r.val
      omega

/-- The projection of the modulated rows. -/
def prod (x : FVec Ideal S16384x2048 .f32) (sc sh : FVec Ideal S8x1x2048 .f32) (w : FVec Ideal S2048x5528 .f32) : FVec Ideal S16384x5528 .f32 :=
  Host.dotGeneral dot_S16384x2048_S2048x5528_S16384x5528_1_0_0_1_n_n none (addf (mulf x (addf (broadcastInDim S16384x2048 ![] bcast_S_S16384x2048 (constant S_ .f32 0x3F800000#32)) (rows sc))) (rows sh)) w

/-- The projection at an index. -/
theorem prod_apply (x : FVec Ideal S16384x2048 .f32) (sc sh : FVec Ideal S8x1x2048 .f32) (w : FVec Ideal S2048x5528 .f32) (r : Fin 16384) (q : Fin 5528) :
    prod x sc sh w (ix2 r q) = ∑ k : Fin 2048, modulated x sc sh r k * w (ix2 k q) := by
  unfold prod modulated
  simp only [pointwise, rows_apply, zero_add]

/-- A projection's columns in the order of the result. -/
def laid (P : FVec Ideal S16384x5528 .f32) : FVec Ideal S16384x5632 .f32 :=
  (concatenate S16384x5632 1 [⟨S16384x1920, ((extractStridedSlice S16384x1920 ![0, 0] P slices_S16384x5528_S16384x1920_0_0) : (⟨S16384x1920, .f32⟩ : BufTy).Contents (Elt Ideal))⟩, ⟨S16384x12, ((extractStridedSlice S16384x12 ![0, 5504] P slices_S16384x5528_S16384x12_0_5504) : (⟨S16384x12, .f32⟩ : BufTy).Contents (Elt Ideal))⟩, ⟨S16384x52, ((broadcastInDim S16384x52 ![] bcast_S_S16384x52 (constant (F := Ideal) S_ .f32 0x00000000#32)) : (⟨S16384x52, .f32⟩ : BufTy).Contents (Elt Ideal))⟩, ⟨S16384x12, ((extractStridedSlice S16384x12 ![0, 5516] P slices_S16384x5528_S16384x12_0_5516) : (⟨S16384x12, .f32⟩ : BufTy).Contents (Elt Ideal))⟩, ⟨S16384x52, ((broadcastInDim S16384x52 ![] bcast_S_S16384x52 (constant (F := Ideal) S_ .f32 0x00000000#32)) : (⟨S16384x52, .f32⟩ : BufTy).Contents (Elt Ideal))⟩, ⟨S16384x768, ((extractStridedSlice S16384x768 ![0, 1920] P slices_S16384x5528_S16384x768_0_1920) : (⟨S16384x768, .f32⟩ : BufTy).Contents (Elt Ideal))⟩, ⟨S16384x768, ((extractStridedSlice S16384x768 ![0, 2688] P slices_S16384x5528_S16384x768_0_2688) : (⟨S16384x768, .f32⟩ : BufTy).Contents (Elt Ideal))⟩, ⟨S16384x256, ((extractStridedSlice S16384x256 ![0, 4992] P slices_S16384x5528_S16384x256_0_4992) : (⟨S16384x256, .f32⟩ : BufTy).Contents (Elt Ideal))⟩, ⟨S16384x768, ((extractStridedSlice S16384x768 ![0, 3456] P slices_S16384x5528_S16384x768_0_3456) : (⟨S16384x768, .f32⟩ : BufTy).Contents (Elt Ideal))⟩, ⟨S16384x768, ((extractStridedSlice S16384x768 ![0, 4224] P slices_S16384x5528_S16384x768_0_4224) : (⟨S16384x768, .f32⟩ : BufTy).Contents (Elt Ideal))⟩, ⟨S16384x256, ((extractStridedSlice S16384x256 ![0, 5248] P slices_S16384x5528_S16384x256_0_5248) : (⟨S16384x256, .f32⟩ : BufTy).Contents (Elt Ideal))⟩] concatenates_S16384x1920_S16384x12_S16384x52_S16384x12_S16384x52_S16384x768_S16384x768_S16384x256_S16384x768_S16384x768_S16384x256_S16384x5632_d1 : (⟨S16384x5632, .f32⟩ : BufTy).Contents (Elt Ideal))

/-- The laid out columns at an index. -/
theorem laid_apply (P : FVec Ideal S16384x5528 .f32) (r : Fin 16384) (j : Fin 5632) :
    laid P (ix2 r j) = cols (fun q => P (ix2 r q)) j := by
  unfold laid
  refine eleven (n := 16384) _ _ _ _ _ _ _ _ _ _ _ _ r (fun q => P (ix2 r q)) ?_ ?_ ?_ ?_ ?_ ?_ ?_ ?_ ?_ ?_ ?_ j <;> intro q <;> simp only [pointwise] <;>
    first
    | rfl
    | exact congrArg P (congrArg₂ ix2 (Fin.ext (Nat.zero_add _)) (Fin.ext rfl))
    | exact congrArg P (congrArg₂ ix2 (Fin.ext (Nat.zero_add _)) (Fin.ext (Nat.zero_add _)))

variable (m : (ℓ : Loc nD τ sig) → Buf (Elt Ideal) ℓ)

/-- The reference's result. -/
theorem res_at (c : Dev nD) (r : Fin 16384) (j : Fin 5632) :
    (res_main_v29 (F := Ideal) m c : FVec Ideal S16384x5632 .f32) (ix2 r j)
      = cols (fun q => ∑ k : Fin 2048, modulated (m ((c.tc : Thread nD τ).loc main_arg0)) (m ((c.tc : Thread nD τ).loc main_arg1)) (m ((c.tc : Thread nD τ).loc main_arg2)) r k
          * (m ((c.tc : Thread nD τ).loc main_arg3) : FVec Ideal S2048x5528 .f32) (ix2 k q)) j := by
  rw [show (res_main_v29 (F := Ideal) m c : FVec Ideal S16384x5632 .f32) = laid (prod (m ((c.tc : Thread nD τ).loc main_arg0)) (m ((c.tc : Thread nD τ).loc main_arg1)) (m ((c.tc : Thread nD τ).loc main_arg2)) (m ((c.tc : Thread nD τ).loc main_arg3))) from rfl, laid_apply]
  simp only [prod_apply]

end Cert.WinRefIdeal.Hand

end
-- ==== Proof.WinClaims.lean ====
module

public import proofs.«01_k».proof.Defs
public import proofs.«01_k».proof.Proof.WinRun
public import proofs.«01_k».proof.Proof.WinTable
public import proofs.«01_k».proof.Proof.WinRefAt
public import proofs.«01_k».proof.Proof.Gen.Win.Frame
public import proofs.«01_k».proof.Proof.Gen.WinIdeal.Frame
public import proofs.«01_k».proof.Proof.Gen.WinRefIdeal.Run
public import Idealize.ShloMosaic.Adequacy
public import Idealize.ShloMosaic.Init

@[expose] public section

set_option maxRecDepth 16384

noncomputable section

namespace Cert.Proof.WinClaims

open Idealize.ShloMosaic Idealize.ShloMosaic.TcCoe Idealize.SL.Sem

/-- The projection kernel's program ends, keeps its arguments and leaves every semaphore at zero. -/
theorem frame : Cert.quiescent_Win := fun m ρ _ => Cert.Win.Gen.frame m ρ (Cert.Win.Hand.ok m)
/-- The same of its ideal form. -/
theorem frame_ideal : Cert.quiescent_WinIdeal := fun m ρ _ => Cert.WinIdeal.Gen.frame m ρ (Cert.WinIdeal.Hand.ok m)
/-- The same of the reference's ideal form, from its run. -/
theorem frame_ref : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)
/-- Nothing was rewritten between the kernel and its ideal form. -/
theorem preserves : Cert.preserves_Win_WinIdeal := trivial

/-- From arguments that agree the kernel's array and the reference's array hold the same numbers: at every token and column,
    the reordered row of the modulated token's products with the weights. -/
theorem arrays_eq (m : (ℓ : Loc Cert.WinIdeal.nD Cert.WinIdeal.τ Cert.WinIdeal.sig) → Buf (Elt Ideal) ℓ)
    (m' : (ℓ : Loc Cert.WinRefIdeal.nD Cert.WinRefIdeal.τ Cert.WinRefIdeal.sig) → Buf (Elt Ideal) ℓ) (c : Dev Cert.WinIdeal.nD)
    (h0 : m' ((c.tc : Thread Cert.WinRefIdeal.nD Cert.WinRefIdeal.τ).loc Cert.WinRefIdeal.main_arg0) = m ((c.tc : Thread Cert.WinIdeal.nD Cert.WinIdeal.τ).loc Cert.WinIdeal.main_arg0))
    (h1 : m' ((c.tc : Thread Cert.WinRefIdeal.nD Cert.WinRefIdeal.τ).loc Cert.WinRefIdeal.main_arg1) = m ((c.tc : Thread Cert.WinIdeal.nD Cert.WinIdeal.τ).loc Cert.WinIdeal.main_arg1))
    (h2 : m' ((c.tc : Thread Cert.WinRefIdeal.nD Cert.WinRefIdeal.τ).loc Cert.WinRefIdeal.main_arg2) = m ((c.tc : Thread Cert.WinIdeal.nD Cert.WinIdeal.τ).loc Cert.WinIdeal.main_arg2))
    (h3 : m' ((c.tc : Thread Cert.WinRefIdeal.nD Cert.WinRefIdeal.τ).loc Cert.WinRefIdeal.main_arg3) = m ((c.tc : Thread Cert.WinIdeal.nD Cert.WinIdeal.τ).loc Cert.WinIdeal.main_arg3)) :
    (Cert.WinRefIdeal.Value.res_main_v29 (F := Ideal) m' c : Vec Ideal Cert.WinIdeal.S16384x5632 .f32) = Cert.WinIdeal.Hand.result m c := by
  funext i
  idx_vars i
  refine (Cert.WinRefIdeal.Hand.res_at m' c i0 i1).trans ?_
  rw [h0, h1, h2, h3]
  rfl

/-- The kernel's ideal form and the reference's ideal form leave the same array. -/
theorem algebraic : Cert.algebraic_WinIdeal_WinRefIdeal := fun m ρ m' ρ' _ hag =>
  ⟨fun c => Cert.WinIdeal.Hand.result m c, Cert.WinIdeal.Hand.run m ρ,
    (θ_run Cert.WinRefIdeal.defs _ _).mono
      (fun _ h c => ⟨(h c).1.trans (arrays_eq m m' c (hag c).1 (hag c).2.1 (hag c).2.2.1 (hag c).2.2.2), (h c).2⟩)
      (Cert.WinRefIdeal.Value.run (F := Ideal) m' ρ')⟩

end Cert.Proof.WinClaims

end
-- ==== Proof.WoutIdealTable.lean ====
module

public import proofs.«01_k».proof.Proof.Gen.WoutIdeal.Frame.Runs
public import Idealize.ShloMosaic.Lib.StableHlo.Run
public import Idealize.ShloMosaic.PureOps.Ideal

@[expose] public section

set_option maxRecDepth 16384

noncomputable section

namespace Cert.WoutIdeal.Hand

open Cert.WoutIdeal Cert.WoutIdeal.Gen Idealize.ShloMosaic Idealize.ShloMosaic.TcCoe Idealize.SL.Sem

variable {F : FTy → Type} [FloatOps F] (m : (ℓ : Loc nD τ sig) → Buf (Elt F) ℓ)

/-- The modulation row of each block of 512 rows: row 0 for the first 16 blocks, then a row for each four blocks. -/
def conds : S32.Idx → BitVec 32 := fun x => lit0 (S32.rowMajor x)

set_option backward.proofsInPublic true in
/-- Those words as the table's contents. -/
def table : pre0.Contents (Elt F) := fun | ⟨0, _⟩ => conds | ⟨_ + 1, h⟩ => absurd h (by simp)

/-- The region finds those words in the table: the program itself writes them. -/
theorem tbl_eq : tbl m = table (F := F) := by
  funext j
  match j with
  | ⟨0, _⟩ =>
    show StableHlo.after hostOps0 (fun b => m (0, b)) main_c = conds
    after_results_simp
    rfl

/-- The table's rows are inside the modulations' array. -/
theorem ok (m : (ℓ : Loc nD τ sig) → Buf (Elt Ideal) ℓ) : Ok (F := Ideal) m := by
  unfold Ok
  rw [tbl_eq m]
  decide +kernel

end Cert.WoutIdeal.Hand

end
-- ==== Proof.WoutMath.lean ====
module

public import Idealize.ShloMosaic.PureOps.Ideal
public import proofs.«01_k».proof.Proof.WinCols

@[expose] public section

set_option maxRecDepth 16384

noncomputable section

namespace Cert.Proof.WoutMath

open Idealize.ShloMosaic
open Cert.Proof.WinCols (condOf)

/-- The mean of 2048 numbers. -/
def mean (f : Fin 2048 → EReal) : EReal := Ideal.div (∑ k, f k) (Ideal.ofBits .f32 0x45000000#32)

/-- The place `q` of a normalized row of 2048 numbers, scaled and shifted. -/
def normed (f : Fin 2048 → EReal) (g b : EReal) (q : Fin 2048) : EReal :=
  (f q - mean f) * Ideal.rsqrt (mean (fun k => (f k - mean f) * (f k - mean f)) + Ideal.ofBits .f32 0x3727C5AC#32) * g + b

/-- Three rows side by side. -/
def beside (a : Fin 512 → EReal) (b c : Fin 768 → EReal) (k : Fin 2048) : EReal :=
  if h : k.val < 512 then a ⟨k.val, h⟩ else if h' : k.val < 1280 then b ⟨k.val - 512, by omega⟩ else c ⟨k.val - 1280, by omega⟩

theorem beside_left (a : Fin 512 → EReal) (b c : Fin 768 → EReal) (k : Fin 512) : beside a b c ⟨k.val, by omega⟩ = a k := by
  unfold beside
  rw [dif_pos k.isLt]

theorem beside_mid (a : Fin 512 → EReal) (b c : Fin 768 → EReal) (k : Fin 768) : beside a b c ⟨512 + k.val, by omega⟩ = b k := by
  unfold beside
  rw [dif_neg (by show ¬512 + k.val < 512; omega), dif_pos (by show 512 + k.val < 1280; omega)]
  exact congrArg b (Fin.ext (Nat.add_sub_cancel_left _ _))

theorem beside_right (a : Fin 512 → EReal) (b c : Fin 768 → EReal) (k : Fin 768) : beside a b c ⟨1280 + k.val, by omega⟩ = c k := by
  unfold beside
  rw [dif_neg (by show ¬1280 + k.val < 512; omega), dif_neg (by show ¬1280 + k.val < 1280; omega)]
  exact congrArg c (Fin.ext (Nat.add_sub_cancel_left _ _))

/-- A sum over 2048 places in three parts. -/
theorem sum_parts (f : Fin 2048 → EReal) :
    ∑ k, f k = ∑ k : Fin 512, f ⟨k.val, by omega⟩ + ∑ k : Fin 768, f ⟨512 + k.val, by omega⟩ + ∑ k : Fin 768, f ⟨1280 + k.val, by omega⟩ := by
  refine (Fin.sum_univ_add (a := 1280) (b := 768) f).trans ?_
  refine congrArg₂ (· + ·) ?_ rfl
  exact Fin.sum_univ_add (a := 512) (b := 768) fun k : Fin (512 + 768) => f (Fin.castAdd 768 k)

/-- The product of three rows side by side with a column, in three parts. -/
theorem sum_beside (a : Fin 512 → EReal) (b c : Fin 768 → EReal) (w : Fin 2048 → EReal) :
    ∑ k : Fin 512, a k * w ⟨k.val, by omega⟩ + ∑ k : Fin 768, b k * w ⟨512 + k.val, by omega⟩ + ∑ k : Fin 768, c k * w ⟨1280 + k.val, by omega⟩
      = ∑ k, beside a b c k * w k := by
  rw [sum_parts fun k => beside a b c k * w k]
  simp only [beside_left, beside_mid, beside_right]

/-- A token's row before its normalization: the scaled residual and the gated product of its three mixers' rows with the weights. -/
def residualRow (ya : (⟨2, ![16384, 512]⟩ : Shape).Idx → EReal) (yb yc : (⟨2, ![16384, 768]⟩ : Shape).Idx → EReal)
    (x : (⟨2, ![16384, 2048]⟩ : Shape).Idx → EReal) (w : (⟨2, ![2048, 2048]⟩ : Shape).Idx → EReal) (gt : (⟨3, ![8, 1, 2048]⟩ : Shape).Idx → EReal)
    (r : Fin 16384) (q : Fin 2048) : EReal :=
  Ideal.ofBits .f32 0x3FB504F3#32 * x (ix2 r q)
    + gt (ix3 (condOf r) 0 q) * ∑ k : Fin 2048, beside (fun k => ya (ix2 r k)) (fun k => yb (ix2 r k)) (fun k => yc (ix2 r k)) k * w (ix2 k q)

/-- A normalized row after its modulation. -/
def shifted (sc sh : (⟨3, ![8, 1, 2048]⟩ : Shape).Idx → EReal) (f : Fin 2048 → EReal) (r : Fin 16384) (q : Fin 2048) : EReal :=
  f q * (1 + sc (ix3 (condOf r) 0 q)) + sh (ix3 (condOf r) 0 q)

end Cert.Proof.WoutMath

end
-- ==== Proof.WoutBody.lean ====
module

public import proofs.«01_k».proof.Proof.WoutIdealTable
public import proofs.«01_k».proof.Proof.WoutMath
public import proofs.«01_k».proof.Proof.Gen.WoutIdeal.Frame
public import Idealize.ShloMosaic.Lib.Tactic
public import Idealize.ShloMosaic.Lib.Pointwise
public import Idealize.ShloMosaic.Lib.MatmulPlain
public import Idealize.ShloMosaic.Lib.Pipeline.ValueKit.Tiles
public import Idealize.ShloMosaic.Lib.Pipeline.ValueKit.Geometry

@[expose] public section

set_option maxRecDepth 16384

noncomputable section

namespace Cert.WoutIdeal.Hand

open Cert.WoutIdeal Cert.WoutIdeal.Gen Idealize.ShloMosaic Idealize.ShloMosaic.TcCoe Idealize.SL.Sem
open Idealize.ShloMosaic.Pipeline (Dat)
open Cert.Proof.WoutMath (mean normed)

theorem hz2 : (![0, 0] : Fin 2 → Nat) = fun _ => 0 := funext fun a => by fin_cases a <;> rfl
theorem hz3 : (![0, 0, 0] : Fin 3 → Nat) = fun _ => 0 := funext fun a => by fin_cases a <;> rfl

/-- A half block's rows before their normalization, at an index. -/
theorem pay2_apply (a : Vec Ideal S256x512 .f32) (wa : Vec Ideal S512x2048 .bf16) (b : Vec Ideal S256x768 .f32) (wb : Vec Ideal S768x2048 .bf16) (c : Vec Ideal S256x768 .f32) (wc : Vec Ideal S768x2048 .bf16) (x : Vec Ideal S256x2048 .f32) (gt : Vec Ideal S1x1x2048 .f32) (r : Fin 256) (q : Fin 2048) :
    k0_pay2 (F := Ideal) a wa b wb c wc x gt (ix2 r q) = Ideal.ofBits .f32 0x3FB504F3#32 * x (ix2 r q)
      + gt (ix3 0 0 q) * (∑ k : Fin 512, a (ix2 r k) * wa (ix2 k q) + ∑ k : Fin 768, b (ix2 r k) * wb (ix2 k q) + ∑ k : Fin 768, c (ix2 r k) * wc (ix2 k q)) := by
  unfold k0_pay2
  simp only [pointwise]
  simp

/-- A half block's normalized rows at an index. -/
theorem pay15_apply (f : Vec Ideal S256x2048 .f32) (g b : Vec Ideal S1x2048 .f32) (r : Fin 256) (q : Fin 2048) :
    k0_pay15 (F := Ideal) f g b (ix2 r q) = normed (fun k => f (ix2 r k)) (g (ix2 0 q)) (b (ix2 0 q)) q := by
  unfold k0_pay15
  simp only [pointwise]
  simp
  rfl

/-- A half block's normalized and modulated rows at an index. -/
theorem pay17_apply (f : Vec Ideal S256x2048 .f32) (g b : Vec Ideal S1x2048 .f32) (sc sh : Vec Ideal S1x1x2048 .f32) (r : Fin 256) (q : Fin 2048) :
    k0_pay17 (F := Ideal) f g b sc sh (ix2 r q) = normed (fun k => f (ix2 r k)) (g (ix2 0 q)) (b (ix2 0 q)) q * (1 + sc (ix3 0 0 q)) + sh (ix3 0 0 q) := by
  unfold k0_pay17 k0_pay16
  simp only [pointwise]
  simp [pay15_apply]

/-- A block's rows before their normalization. -/
def blockRes (x0 : Vec Ideal S512x512 .f32) (x1 x2 : Vec Ideal S512x768 .f32) (x3 : Vec Ideal S512x2048 .f32) (x4 : Vec Ideal S2048x2048 .bf16) (x5 : Vec Ideal S1x1x2048 .f32)
    (r : Fin 512) (q : Fin 2048) : EReal :=
  Ideal.ofBits .f32 0x3FB504F3#32 * x3 (ix2 r q)
    + x5 (ix3 0 0 q) * (∑ k : Fin 512, x0 (ix2 r k) * x4 (ix2 ⟨k.val, by omega⟩ q) + ∑ k : Fin 768, x1 (ix2 r k) * x4 (ix2 ⟨512 + k.val, by omega⟩ q) + ∑ k : Fin 768, x2 (ix2 r k) * x4 (ix2 ⟨1280 + k.val, by omega⟩ q))

/-- A load of some rows of a two-dimensional block, at an index. -/
theorem ld_rows {n0 n1 k0 : ℕ} {e : EltTy} (X : (⟨2, ![n0, n1]⟩ : Shape).Idx → Elt Ideal e) (o : ℕ) (inb) (r : Fin k0) (q : Fin n1) (r' : Fin n0) (hr : r'.val = o + r.val) :
    View.ld X (Rect.unit (s := ⟨2, ![n0, n1]⟩) ![o, 0] ![k0, n1] inb) (ix2 r q) = X (ix2 r' q) :=
  View.ld_unit_apply_of X _ _ inb _ _ fun a => by
    match a with
    | ⟨0, _⟩ => exact hr
    | ⟨1, _⟩ => exact (Nat.zero_add _).symm

/-- The rows before their normalization of the half block that starts at a row. -/
theorem half_apply (x0 : Vec Ideal S512x512 .f32) (x1 x2 : Vec Ideal S512x768 .f32) (x3 : Vec Ideal S512x2048 .f32) (x4 : Vec Ideal S2048x2048 .bf16) (x5 : Vec Ideal S1x1x2048 .f32)
    (o : ℕ) (ho : o ≤ 256) (i0 i1 i2 i3 j0 j1 j2) (r : Fin 256) (q : Fin 2048) :
    k0_pay2 (F := Ideal) (View.ld x0 (Rect.unit (s := S512x512) ![o, 0] ![256, 512] i0)) (View.ld x4 (Rect.unit (s := S2048x2048) ![0, 0] ![512, 2048] j0))
      (View.ld x1 (Rect.unit (s := S512x768) ![o, 0] ![256, 768] i1)) (View.ld x4 (Rect.unit (s := S2048x2048) ![512, 0] ![768, 2048] j1))
      (View.ld x2 (Rect.unit (s := S512x768) ![o, 0] ![256, 768] i2)) (View.ld x4 (Rect.unit (s := S2048x2048) ![1280, 0] ![768, 2048] j2))
      (View.ld x3 (Rect.unit (s := S512x2048) ![o, 0] ![256, 2048] i3)) x5 (ix2 r q)
      = blockRes x0 x1 x2 x3 x4 x5 ⟨o + r.val, by omega⟩ q := by
  refine (pay2_apply _ _ _ _ _ _ _ _ r q).trans ?_
  unfold blockRes
  refine congrArg₂ (· + ·) (congrArg (_ * ·) (ld_rows x3 o i3 r q _ rfl)) (congrArg (_ * ·) (congrArg₂ (· + ·) (congrArg₂ (· + ·)
    (Finset.sum_congr rfl fun k _ => congrArg₂ (· * ·) (ld_rows x0 o i0 r k _ rfl) (ld_rows x4 0 j0 k q _ (Nat.zero_add _).symm))
    (Finset.sum_congr rfl fun k _ => congrArg₂ (· * ·) (ld_rows x1 o i1 r k _ rfl) (ld_rows x4 512 j1 k q _ rfl)))
    (Finset.sum_congr rfl fun k _ => congrArg₂ (· * ·) (ld_rows x2 o i2 r k _ rfl) (ld_rows x4 1280 j2 k q _ rfl))))

/-- The normalized rows that a point stores, at an index. -/
theorem out_11_apply (c : Dev nD) (i : grid0.Coords) (arg2 : Memref sig .tc .vmem S512x512 .f32) (harg2 : arg2.IsWhole) (arg3 : Memref sig .tc .vmem S512x768 .f32) (harg3 : arg3.IsWhole) (arg4 : Memref sig .tc .vmem S512x768 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2x2048x128 .bf16) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x128 .f32) (harg15 : arg15.IsWhole)
    (x0 : Vec Ideal S512x512 .f32) (x1 : Vec Ideal S512x768 .f32) (x2 : Vec Ideal S512x768 .f32) (x3 : Vec Ideal S512x2048 .f32) (x4 : Vec Ideal S2048x2048 .bf16) (x5 : Vec Ideal S1x1x2048 .f32) (x6 : Vec Ideal S1x1x2048 .f32) (x7 : Vec Ideal S1x1x2048 .f32) (x8 : Vec Ideal S1x2048 .f32) (x9 : Vec Ideal S1x2048 .f32) (x10 : Vec Ideal S2x2048x128 .bf16) (xt0 : TbBuf0 (F := Ideal) c tbM0_0) (r : Fin 512) (q : Fin 2048) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 (ix2 r q) = normed (blockRes x0 x1 x2 x3 x4 x5 r) (x8 (ix2 0 q)) (x9 (ix2 0 q)) q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0)]
  have hc := cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0
  unfold kernelRun0_A at hc ⊢
  dsimp only at hc ⊢
  refine View.canon_eq_of_allAt _ _ _ (hc _) ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.ld_unit_zero (S := S1x2048) hz2]
  refine View.allAt_cons_unit _ _ _ _ _ ?_ ?_
  · intro z hz
    have h0 : r.val = 256 + (z 0).val := hz 0
    have h1 : q.val = 0 + (z 1).val := hz 1
    have hr : (⟨256 + (z 0).val, by omega⟩ : Fin 512) = r := Fin.ext h0.symm
    have hq : (z 1 : Fin 2048) = q := Fin.ext (by omega)
    rw [← hr, ← hq]
    refine (congrArg _ (eq_ix2 (n0 := 256) (n1 := 2048) z)).trans ?_
    refine (pay15_apply _ x8 x9 (z 0) (z 1)).trans ?_
    exact (congrArg (fun f => normed f (x8 (ix2 0 (z 1))) (x9 (ix2 0 (z 1))) (z 1)) (funext fun k => half_apply x0 x1 x2 x3 x4 x5 256 (by omega) _ _ _ _ _ _ _ (z 0) k))
  refine View.allAt_cons_unit _ _ _ _ _ ?_ ?_
  · intro z hz
    have h0 : r.val = 0 + (z 0).val := hz 0
    have h1 : q.val = 0 + (z 1).val := hz 1
    have hr : (⟨0 + (z 0).val, by omega⟩ : Fin 512) = r := Fin.ext h0.symm
    have hq : (z 1 : Fin 2048) = q := Fin.ext (by omega)
    rw [← hr, ← hq]
    refine (congrArg _ (eq_ix2 (n0 := 256) (n1 := 2048) z)).trans ?_
    refine (pay15_apply _ x8 x9 (z 0) (z 1)).trans ?_
    exact (congrArg (fun f => normed f (x8 (ix2 0 (z 1))) (x9 (ix2 0 (z 1))) (z 1)) (funext fun k => half_apply x0 x1 x2 x3 x4 x5 0 (by omega) _ _ _ _ _ _ _ (z 0) k))
  exact View.allAt_nil _ _

/-- The modulated rows that a point stores, at an index. -/
theorem out_12_apply (c : Dev nD) (i : grid0.Coords) (arg2 : Memref sig .tc .vmem S512x512 .f32) (harg2 : arg2.IsWhole) (arg3 : Memref sig .tc .vmem S512x768 .f32) (harg3 : arg3.IsWhole) (arg4 : Memref sig .tc .vmem S512x768 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2x2048x128 .bf16) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x128 .f32) (harg15 : arg15.IsWhole)
    (x0 : Vec Ideal S512x512 .f32) (x1 : Vec Ideal S512x768 .f32) (x2 : Vec Ideal S512x768 .f32) (x3 : Vec Ideal S512x2048 .f32) (x4 : Vec Ideal S2048x2048 .bf16) (x5 : Vec Ideal S1x1x2048 .f32) (x6 : Vec Ideal S1x1x2048 .f32) (x7 : Vec Ideal S1x1x2048 .f32) (x8 : Vec Ideal S1x2048 .f32) (x9 : Vec Ideal S1x2048 .f32) (x10 : Vec Ideal S2x2048x128 .bf16) (xt0 : TbBuf0 (F := Ideal) c tbM0_0) (r : Fin 512) (q : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0 (ix2 r q) = normed (blockRes x0 x1 x2 x3 x4 x5 r) (x8 (ix2 0 q)) (x9 (ix2 0 q)) q * (1 + x6 (ix3 0 0 q)) + x7 (ix3 0 0 q) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0)]
  have hc := cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 xt0
  unfold kernelRun0_A at hc ⊢
  dsimp only at hc ⊢
  refine View.canon_eq_of_allAt _ _ _ (hc _) ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x2048) hz3, View.ld_unit_zero (S := S1x2048) hz2]
  refine View.allAt_cons_unit _ _ _ _ _ ?_ ?_
  · intro z hz
    have h0 : r.val = 256 + (z 0).val := hz 0
    have h1 : q.val = 0 + (z 1).val := hz 1
    have hr : (⟨256 + (z 0).val, by omega⟩ : Fin 512) = r := Fin.ext h0.symm
    have hq : (z 1 : Fin 2048) = q := Fin.ext (by omega)
    rw [← hr, ← hq]
    refine (congrArg _ (eq_ix2 (n0 := 256) (n1 := 2048) z)).trans ?_
    refine (pay17_apply _ x8 x9 x6 x7 (z 0) (z 1)).trans ?_
    exact congrArg (fun e : EReal => e * (1 + x6 (ix3 0 0 (z 1))) + x7 (ix3 0 0 (z 1))) (congrArg (fun f => normed f (x8 (ix2 0 (z 1))) (x9 (ix2 0 (z 1))) (z 1)) (funext fun k => half_apply x0 x1 x2 x3 x4 x5 256 (by omega) _ _ _ _ _ _ _ (z 0) k))
  refine View.allAt_cons_unit _ _ _ _ _ ?_ ?_
  · intro z hz
    have h0 : r.val = 0 + (z 0).val := hz 0
    have h1 : q.val = 0 + (z 1).val := hz 1
    have hr : (⟨0 + (z 0).val, by omega⟩ : Fin 512) = r := Fin.ext h0.symm
    have hq : (z 1 : Fin 2048) = q := Fin.ext (by omega)
    rw [← hr, ← hq]
    refine (congrArg _ (eq_ix2 (n0 := 256) (n1 := 2048) z)).trans ?_
    refine (pay17_apply _ x8 x9 x6 x7 (z 0) (z 1)).trans ?_
    exact congrArg (fun e : EReal => e * (1 + x6 (ix3 0 0 (z 1))) + x7 (ix3 0 0 (z 1))) (congrArg (fun f => normed f (x8 (ix2 0 (z 1))) (x9 (ix2 0 (z 1))) (z 1)) (funext fun k => half_apply x0 x1 x2 x3 x4 x5 0 (by omega) _ _ _ _ _ _ _ (z 0) k))
  exact View.allAt_nil _ _

end Cert.WoutIdeal.Hand

end
-- ==== Proof.WoutRun.lean ====
module

public import proofs.«01_k».proof.Proof.WoutBody
public import Idealize.ShloMosaic.Adequacy
public import Idealize.ShloMosaic.Init

@[expose] public section

set_option maxRecDepth 16384

noncomputable section

namespace Cert.WoutIdeal.Hand

open Cert.WoutIdeal Cert.WoutIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Proof.WinCols (condOf)
open Cert.Proof.WoutMath (mean normed beside residualRow shifted sum_beside)

variable (m : (ℓ : Loc nD τ sig) → Buf (Elt Ideal) ℓ) (ρ : Dev nD → PrngReg)

/-- The first mixer's rows. -/
abbrev ya (c : Dev nD) : S16384x512.Idx → EReal := m ((c : Thread nD τ).loc main_arg0)
/-- The second mixer's rows. -/
abbrev yb (c : Dev nD) : S16384x768.Idx → EReal := m ((c : Thread nD τ).loc main_arg1)
/-- The third mixer's rows. -/
abbrev yc (c : Dev nD) : S16384x768.Idx → EReal := m ((c : Thread nD τ).loc main_arg2)
/-- The tokens' rows. -/
abbrev xx (c : Dev nD) : S16384x2048.Idx → EReal := m ((c : Thread nD τ).loc main_arg3)
/-- The weights. -/
abbrev ws (c : Dev nD) : S2048x2048.Idx → EReal := m ((c : Thread nD τ).loc main_arg4)
/-- The conditions' gates. -/
abbrev gts (c : Dev nD) : S8x1x2048.Idx → EReal := m ((c : Thread nD τ).loc main_arg5)
/-- The conditions' scales. -/
abbrev scs (c : Dev nD) : S8x1x2048.Idx → EReal := m ((c : Thread nD τ).loc main_arg6)
/-- The conditions' shifts. -/
abbrev shs (c : Dev nD) : S8x1x2048.Idx → EReal := m ((c : Thread nD τ).loc main_arg7)
/-- The normalization's scales. -/
abbrev gs (c : Dev nD) : S2048.Idx → EReal := m ((c : Thread nD τ).loc main_arg8)
/-- The normalization's shifts. -/
abbrev bs (c : Dev nD) : S2048.Idx → EReal := m ((c : Thread nD τ).loc main_arg9)

/-- The weights as the call takes them. -/
def rounded (w : FVec Ideal S2048x2048 .f32) : FVec Ideal S2048x2048 .bf16 := truncf .bf16 w bitsLt_bf16_f32

/-- A vector of 2048 numbers as a row. -/
def asRow (v : FVec Ideal S2048 .f32) : FVec Ideal S1x2048 .f32 := broadcastInDim S1x2048 ![1] bcast_S2048_S1x2048_1 v

theorem V_ws (c : Dev nD) : V m c main_v8 = rounded (m ((c : Thread nD τ).loc main_arg4)) := by
  show StableHlo.after (List.flatten [hostOps0, hostOps0_1, hostOps0_2]) (fun b => m (c, b)) main_v8 = _
  simp only [List.flatten_cons, List.flatten_nil, List.append_nil, List.cons_append, List.nil_append]
  after_results_simp
  rfl

theorem V_gs (c : Dev nD) : V m c main_v9 = asRow (m ((c : Thread nD τ).loc main_arg8)) := by
  show StableHlo.after (List.flatten [hostOps0, hostOps0_1, hostOps0_2]) (fun b => m (c, b)) main_v9 = _
  simp only [List.flatten_cons, List.flatten_nil, List.append_nil, List.cons_append, List.nil_append]
  after_results_simp
  rfl

theorem V_bs (c : Dev nD) : V m c main_v10 = asRow (m ((c : Thread nD τ).loc main_arg9)) := by
  show StableHlo.after (List.flatten [hostOps0, hostOps0_1, hostOps0_2]) (fun b => m (c, b)) main_v10 = _
  simp only [List.flatten_cons, List.flatten_nil, List.append_nil, List.cons_append, List.nil_append]
  after_results_simp
  rfl

/-- The index maps of the row blocks. -/
theorem idx_rows : ∀ t : Fin grid0.N, (cc0_transform_0 (grid0.coords t) (0 : Fin 2) = t.val ∧ cc0_transform_0 (grid0.coords t) (1 : Fin 2) = 0)
    ∧ (cc0_transform_1 (grid0.coords t) (0 : Fin 2) = t.val ∧ cc0_transform_1 (grid0.coords t) (1 : Fin 2) = 0)
    ∧ (cc0_transform_2 (grid0.coords t) (0 : Fin 2) = t.val ∧ cc0_transform_2 (grid0.coords t) (1 : Fin 2) = 0)
    ∧ (cc0_transform_3 (grid0.coords t) (0 : Fin 2) = t.val ∧ cc0_transform_3 (grid0.coords t) (1 : Fin 2) = 0)
    ∧ (cc0_transform_11 (grid0.coords t) (0 : Fin 2) = t.val ∧ cc0_transform_11 (grid0.coords t) (1 : Fin 2) = 0)
    ∧ (cc0_transform_12 (grid0.coords t) (0 : Fin 2) = t.val ∧ cc0_transform_12 (grid0.coords t) (1 : Fin 2) = 0) := by
  decide +kernel

/-- The index maps of the whole arrays. -/
theorem idx_whole : ∀ t : Fin grid0.N, (cc0_transform_4 (grid0.coords t) (0 : Fin 2) = 0 ∧ cc0_transform_4 (grid0.coords t) (1 : Fin 2) = 0)
    ∧ (cc0_transform_8 (grid0.coords t) (0 : Fin 2) = 0 ∧ cc0_transform_8 (grid0.coords t) (1 : Fin 2) = 0)
    ∧ (cc0_transform_9 (grid0.coords t) (0 : Fin 2) = 0 ∧ cc0_transform_9 (grid0.coords t) (1 : Fin 2) = 0) := by
  decide +kernel

/-- The index map of the gates. -/
theorem idx_gates : ∀ t : Fin grid0.N,
    (cc0_transform_5 k0_off1_inb numel1_S1 (table (F := Ideal)) (grid0.coords t) (0 : Fin 3) = (if t.val < 16 then 0 else 1 + (t.val - 16) / 4)
    ∧ cc0_transform_5 k0_off1_inb numel1_S1 (table (F := Ideal)) (grid0.coords t) (1 : Fin 3) = 0
    ∧ cc0_transform_5 k0_off1_inb numel1_S1 (table (F := Ideal)) (grid0.coords t) (2 : Fin 3) = 0) := by
  decide +kernel

/-- The index map of the scales. -/
theorem idx_scales : ∀ t : Fin grid0.N,
    (cc0_transform_6 k0_off1_inb numel1_S1 (table (F := Ideal)) (grid0.coords t) (0 : Fin 3) = (if t.val < 16 then 0 else 1 + (t.val - 16) / 4)
    ∧ cc0_transform_6 k0_off1_inb numel1_S1 (table (F := Ideal)) (grid0.coords t) (1 : Fin 3) = 0
    ∧ cc0_transform_6 k0_off1_inb numel1_S1 (table (F := Ideal)) (grid0.coords t) (2 : Fin 3) = 0) := by
  decide +kernel

/-- The index map of the shifts. -/
theorem idx_shifts : ∀ t : Fin grid0.N,
    (cc0_transform_7 k0_off1_inb numel1_S1 (table (F := Ideal)) (grid0.coords t) (0 : Fin 3) = (if t.val < 16 then 0 else 1 + (t.val - 16) / 4)
    ∧ cc0_transform_7 k0_off1_inb numel1_S1 (table (F := Ideal)) (grid0.coords t) (1 : Fin 3) = 0
    ∧ cc0_transform_7 k0_off1_inb numel1_S1 (table (F := Ideal)) (grid0.coords t) (2 : Fin 3) = 0) := by
  decide +kernel

theorem lt_points (hO : Ok m) (t : Fin (cfgM m hO).N) : t.val < 32 := lt_of_lt_of_eq t.isLt N_0

/-- The token of a row of a block. -/
def tok (t : ℕ) (ht : t < 32) (r : Fin 512) : Fin 16384 := ⟨t * 512 + r.val, by omega⟩

/-- The block's condition is its tokens'. -/
theorem condOf_tok (t : ℕ) (ht : t < 32) (r : Fin 512) : (condOf (tok t ht r)).val = if t < 16 then 0 else 1 + (t - 16) / 4 := by
  have hr := r.isLt
  by_cases h : t < 16
  · have h' : (tok t ht r).val < 8192 := by show t * 512 + r.val < 8192; omega
    unfold condOf
    rw [dif_pos h', if_pos h]
    rfl
  · have h' : ¬(tok t ht r).val < 8192 := by show ¬(t * 512 + r.val < 8192); omega
    unfold condOf
    rw [dif_neg h', if_neg h]
    show 1 + (t * 512 + r.val - 8192) / 2048 = 1 + (t - 16) / 4
    omega

/-- A block of the first mixer's rows. -/
def yaBlk (c : Dev nD) (t : ℕ) (ht : t < 32) : Vec Ideal S512x512 .f32 := fun y => ya m c (ix2 (tok t ht (y 0)) (y 1))

theorem blk_ya (hO : Ok m) (c : Dev nD) (t : Fin (cfgM m hO).N) :
    (iblk m hO c 0 t : Vec Ideal S512x512 .f32) = yaBlk m c t.val (lt_points m hO t) := by
  obtain ⟨⟨h0, h1⟩, -, -, -, -, -⟩ := idx_rows t
  funext y
  unfold iblk
  rw [View.read_apply]
  obtain ⟨z, rfl⟩ : ∃ z : S512x512.Idx, z = y := ⟨y, rfl⟩
  refine Eq.trans (congrFun (V_main_arg0 m c) _) ?_
  show m ((c : Thread nD τ).loc main_arg0) _ = m ((c : Thread nD τ).loc main_arg0) _
  congr 1
  funext a
  apply Fin.ext
  match a with
  | ⟨0, _⟩ => show cc0_transform_0 (grid0.coords t) 0 * 512 + 1 * (z 0).val = t.val * 512 + (z 0).val; omega
  | ⟨1, _⟩ => show cc0_transform_0 (grid0.coords t) 1 * 512 + 1 * (z 1).val = (z 1).val; omega

/-- A block of the second mixer's rows. -/
def ybBlk (c : Dev nD) (t : ℕ) (ht : t < 32) : Vec Ideal S512x768 .f32 := fun y => yb m c (ix2 (tok t ht (y 0)) (y 1))

theorem blk_yb (hO : Ok m) (c : Dev nD) (t : Fin (cfgM m hO).N) :
    (iblk m hO c 1 t : Vec Ideal S512x768 .f32) = ybBlk m c t.val (lt_points m hO t) := by
  obtain ⟨-, ⟨h0, h1⟩, -, -, -, -⟩ := idx_rows t
  funext y
  unfold iblk
  rw [View.read_apply]
  obtain ⟨z, rfl⟩ : ∃ z : S512x768.Idx, z = y := ⟨y, rfl⟩
  refine Eq.trans (congrFun (V_main_arg1 m c) _) ?_
  show m ((c : Thread nD τ).loc main_arg1) _ = m ((c : Thread nD τ).loc main_arg1) _
  congr 1
  funext a
  apply Fin.ext
  match a with
  | ⟨0, _⟩ => show cc0_transform_1 (grid0.coords t) 0 * 512 + 1 * (z 0).val = t.val * 512 + (z 0).val; omega
  | ⟨1, _⟩ => show cc0_transform_1 (grid0.coords t) 1 * 768 + 1 * (z 1).val = (z 1).val; omega

/-- A block of the third mixer's rows. -/
def ycBlk (c : Dev nD) (t : ℕ) (ht : t < 32) : Vec Ideal S512x768 .f32 := fun y => yc m c (ix2 (tok t ht (y 0)) (y 1))

theorem blk_yc (hO : Ok m) (c : Dev nD) (t : Fin (cfgM m hO).N) :
    (iblk m hO c 2 t : Vec Ideal S512x768 .f32) = ycBlk m c t.val (lt_points m hO t) := by
  obtain ⟨-, -, ⟨h0, h1⟩, -, -, -⟩ := idx_rows t
  funext y
  unfold iblk
  rw [View.read_apply]
  obtain ⟨z, rfl⟩ : ∃ z : S512x768.Idx, z = y := ⟨y, rfl⟩
  refine Eq.trans (congrFun (V_main_arg2 m c) _) ?_
  show m ((c : Thread nD τ).loc main_arg2) _ = m ((c : Thread nD τ).loc main_arg2) _
  congr 1
  funext a
  apply Fin.ext
  match a with
  | ⟨0, _⟩ => show cc0_transform_2 (grid0.coords t) 0 * 512 + 1 * (z 0).val = t.val * 512 + (z 0).val; omega
  | ⟨1, _⟩ => show cc0_transform_2 (grid0.coords t) 1 * 768 + 1 * (z 1).val = (z 1).val; omega

/-- A block of the tokens' rows. -/
def xxBlk (c : Dev nD) (t : ℕ) (ht : t < 32) : Vec Ideal S512x2048 .f32 := fun y => xx m c (ix2 (tok t ht (y 0)) (y 1))

theorem blk_xx (hO : Ok m) (c : Dev nD) (t : Fin (cfgM m hO).N) :
    (iblk m hO c 3 t : Vec Ideal S512x2048 .f32) = xxBlk m c t.val (lt_points m hO t) := by
  obtain ⟨-, -, -, ⟨h0, h1⟩, -, -⟩ := idx_rows t
  funext y
  unfold iblk
  rw [View.read_apply]
  obtain ⟨z, rfl⟩ : ∃ z : S512x2048.Idx, z = y := ⟨y, rfl⟩
  refine Eq.trans (congrFun (V_main_arg3 m c) _) ?_
  show m ((c : Thread nD τ).loc main_arg3) _ = m ((c : Thread nD τ).loc main_arg3) _
  congr 1
  funext a
  apply Fin.ext
  match a with
  | ⟨0, _⟩ => show cc0_transform_3 (grid0.coords t) 0 * 512 + 1 * (z 0).val = t.val * 512 + (z 0).val; omega
  | ⟨1, _⟩ => show cc0_transform_3 (grid0.coords t) 1 * 2048 + 1 * (z 1).val = (z 1).val; omega

/-- A block of the gates: its condition's row. -/
def gtsBlk (c : Dev nD) (t : ℕ) (ht : t < 32) : Vec Ideal S1x1x2048 .f32 := fun y => gts m c (ix3 (condOf (tok t ht 0)) 0 (y 2))

theorem blk_gts (hO : Ok m) (c : Dev nD) (t : Fin (cfgM m hO).N) :
    (iblk m hO c 5 t : Vec Ideal S1x1x2048 .f32) = gtsBlk m c t.val (lt_points m hO t) := by
  obtain ⟨h0, h1, h2⟩ := idx_gates t
  rw [← condOf_tok t.val (lt_points m hO t) 0] at h0
  rw [← tbl_eq m] at h0 h1 h2
  funext y
  unfold iblk
  rw [View.read_apply]
  obtain ⟨z, rfl⟩ : ∃ z : S1x1x2048.Idx, z = y := ⟨y, rfl⟩
  have y0 : (z 0).val < 1 := (z 0).isLt
  have y1 : (z 1).val < 1 := (z 1).isLt
  refine Eq.trans (congrFun (V_main_arg5 m c) _) ?_
  show m ((c : Thread nD τ).loc main_arg5) _ = m ((c : Thread nD τ).loc main_arg5) _
  congr 1
  funext a
  apply Fin.ext
  match a with
  | ⟨0, _⟩ => show cc0_transform_5 k0_off1_inb numel1_S1 (tbl m) (grid0.coords t) 0 * 1 + 1 * (z 0).val = (condOf (tok t.val (lt_points m hO t) 0)).val; omega
  | ⟨1, _⟩ => show cc0_transform_5 k0_off1_inb numel1_S1 (tbl m) (grid0.coords t) 1 * 1 + 1 * (z 1).val = 0; omega
  | ⟨2, _⟩ => show cc0_transform_5 k0_off1_inb numel1_S1 (tbl m) (grid0.coords t) 2 * 2048 + 1 * (z 2).val = (z 2).val; omega

/-- A block of the scales: its condition's row. -/
def scsBlk (c : Dev nD) (t : ℕ) (ht : t < 32) : Vec Ideal S1x1x2048 .f32 := fun y => scs m c (ix3 (condOf (tok t ht 0)) 0 (y 2))

theorem blk_scs (hO : Ok m) (c : Dev nD) (t : Fin (cfgM m hO).N) :
    (iblk m hO c 6 t : Vec Ideal S1x1x2048 .f32) = scsBlk m c t.val (lt_points m hO t) := by
  obtain ⟨h0, h1, h2⟩ := idx_scales t
  rw [← condOf_tok t.val (lt_points m hO t) 0] at h0
  rw [← tbl_eq m] at h0 h1 h2
  funext y
  unfold iblk
  rw [View.read_apply]
  obtain ⟨z, rfl⟩ : ∃ z : S1x1x2048.Idx, z = y := ⟨y, rfl⟩
  have y0 : (z 0).val < 1 := (z 0).isLt
  have y1 : (z 1).val < 1 := (z 1).isLt
  refine Eq.trans (congrFun (V_main_arg6 m c) _) ?_
  show m ((c : Thread nD τ).loc main_arg6) _ = m ((c : Thread nD τ).loc main_arg6) _
  congr 1
  funext a
  apply Fin.ext
  match a with
  | ⟨0, _⟩ => show cc0_transform_6 k0_off1_inb numel1_S1 (tbl m) (grid0.coords t) 0 * 1 + 1 * (z 0).val = (condOf (tok t.val (lt_points m hO t) 0)).val; omega
  | ⟨1, _⟩ => show cc0_transform_6 k0_off1_inb numel1_S1 (tbl m) (grid0.coords t) 1 * 1 + 1 * (z 1).val = 0; omega
  | ⟨2, _⟩ => show cc0_transform_6 k0_off1_inb numel1_S1 (tbl m) (grid0.coords t) 2 * 2048 + 1 * (z 2).val = (z 2).val; omega

/-- A block of the shifts: its condition's row. -/
def shsBlk (c : Dev nD) (t : ℕ) (ht : t < 32) : Vec Ideal S1x1x2048 .f32 := fun y => shs m c (ix3 (condOf (tok t ht 0)) 0 (y 2))

theorem blk_shs (hO : Ok m) (c : Dev nD) (t : Fin (cfgM m hO).N) :
    (iblk m hO c 7 t : Vec Ideal S1x1x2048 .f32) = shsBlk m c t.val (lt_points m hO t) := by
  obtain ⟨h0, h1, h2⟩ := idx_shifts t
  rw [← condOf_tok t.val (lt_points m hO t) 0] at h0
  rw [← tbl_eq m] at h0 h1 h2
  funext y
  unfold iblk
  rw [View.read_apply]
  obtain ⟨z, rfl⟩ : ∃ z : S1x1x2048.Idx, z = y := ⟨y, rfl⟩
  have y0 : (z 0).val < 1 := (z 0).isLt
  have y1 : (z 1).val < 1 := (z 1).isLt
  refine Eq.trans (congrFun (V_main_arg7 m c) _) ?_
  show m ((c : Thread nD τ).loc main_arg7) _ = m ((c : Thread nD τ).loc main_arg7) _
  congr 1
  funext a
  apply Fin.ext
  match a with
  | ⟨0, _⟩ => show cc0_transform_7 k0_off1_inb numel1_S1 (tbl m) (grid0.coords t) 0 * 1 + 1 * (z 0).val = (condOf (tok t.val (lt_points m hO t) 0)).val; omega
  | ⟨1, _⟩ => show cc0_transform_7 k0_off1_inb numel1_S1 (tbl m) (grid0.coords t) 1 * 1 + 1 * (z 1).val = 0; omega
  | ⟨2, _⟩ => show cc0_transform_7 k0_off1_inb numel1_S1 (tbl m) (grid0.coords t) 2 * 2048 + 1 * (z 2).val = (z 2).val; omega

/-- Every point's weights are all of them. -/
def wsBlk (c : Dev nD) : Vec Ideal S2048x2048 .bf16 := fun y => ws m c y

theorem blk_ws (hO : Ok m) (c : Dev nD) (t : Fin (cfgM m hO).N) :
    (iblk m hO c 4 t : Vec Ideal S2048x2048 .bf16) = wsBlk m c := by
  obtain ⟨⟨h0, h1⟩, -, -⟩ := idx_whole t
  funext y
  unfold iblk
  rw [View.read_apply]
  obtain ⟨z, rfl⟩ : ∃ z : S2048x2048.Idx, z = y := ⟨y, rfl⟩
  refine Eq.trans (congrFun (V_ws m c) _) ?_
  show ws m c _ = ws m c _
  congr 1
  funext a
  apply Fin.ext
  match a with
  | ⟨0, _⟩ => show cc0_transform_4 (grid0.coords t) 0 * 2048 + 1 * (z 0).val = (z 0).val; omega
  | ⟨1, _⟩ => show cc0_transform_4 (grid0.coords t) 1 * 2048 + 1 * (z 1).val = (z 1).val; omega

/-- Such a row at an index. -/
theorem row_apply (v : FVec Ideal S2048 .f32) (z : S1x2048.Idx) : asRow v z = v (ix1 (z 1)) := by
  idx_vars z
  unfold asRow
  simp only [pointwise]
  simp

/-- Every point's normalization scales are all of them. -/
def gsBlk (c : Dev nD) : Vec Ideal S1x2048 .f32 := fun y => gs m c (ix1 (y 1))

theorem blk_gs (hO : Ok m) (c : Dev nD) (t : Fin (cfgM m hO).N) :
    (iblk m hO c 8 t : Vec Ideal S1x2048 .f32) = gsBlk m c := by
  obtain ⟨-, ⟨h0, h1⟩, -⟩ := idx_whole t
  funext y
  unfold iblk
  rw [View.read_apply]
  obtain ⟨z, rfl⟩ : ∃ z : S1x2048.Idx, z = y := ⟨y, rfl⟩
  refine Eq.trans (congrFun (V_gs m c) _) ?_
  refine (row_apply (gs m c) _).trans ?_
  show gs m c _ = gs m c _
  congr 1
  funext a
  apply Fin.ext
  match a with
  | ⟨0, _⟩ => show cc0_transform_8 (grid0.coords t) 1 * 2048 + 1 * (z 1).val = (z 1).val; omega

/-- Every point's normalization shifts are all of them. -/
def bsBlk (c : Dev nD) : Vec Ideal S1x2048 .f32 := fun y => bs m c (ix1 (y 1))

theorem blk_bs (hO : Ok m) (c : Dev nD) (t : Fin (cfgM m hO).N) :
    (iblk m hO c 9 t : Vec Ideal S1x2048 .f32) = bsBlk m c := by
  obtain ⟨-, -, h0, h1⟩ := idx_whole t
  funext y
  unfold iblk
  rw [View.read_apply]
  obtain ⟨z, rfl⟩ : ∃ z : S1x2048.Idx, z = y := ⟨y, rfl⟩
  refine Eq.trans (congrFun (V_bs m c) _) ?_
  refine (row_apply (bs m c) _).trans ?_
  show bs m c _ = bs m c _
  congr 1
  funext a
  apply Fin.ext
  match a with
  | ⟨0, _⟩ => show cc0_transform_9 (grid0.coords t) 1 * 2048 + 1 * (z 1).val = (z 1).val; omega

/-- A block's rows before their normalization are its tokens'. -/
theorem res_blocks (c : Dev nD) (t : ℕ) (ht : t < 32) (r : Fin 512) (q : Fin 2048) :
    blockRes (yaBlk m c t ht) (ybBlk m c t ht) (ycBlk m c t ht) (xxBlk m c t ht) (wsBlk m c) (gtsBlk m c t ht) r q
      = residualRow (ya m c) (yb m c) (yc m c) (xx m c) (ws m c) (gts m c) (tok t ht r) q := by
  have e : condOf (tok t ht 0) = condOf (tok t ht r) := Fin.ext ((condOf_tok t ht 0).trans (condOf_tok t ht r).symm)
  unfold blockRes residualRow
  rw [← e]
  exact congrArg (fun z => Ideal.ofBits .f32 0x3FB504F3#32 * xx m c (ix2 (tok t ht r) q) + gts m c (ix3 (condOf (tok t ht 0)) 0 q) * z)
    (sum_beside (fun k => ya m c (ix2 (tok t ht r) k)) (fun k => yb m c (ix2 (tok t ht r) k)) (fun k => yc m c (ix2 (tok t ht r) k)) (fun k => ws m c (ix2 k q)))

/-- The normalized rows. -/
def result (c : Dev nD) : S16384x2048.Idx → EReal := fun i =>
  normed (residualRow (ya m c) (yb m c) (yc m c) (xx m c) (ws m c) (gts m c) (i 0)) (gs m c (ix1 (i 1))) (bs m c (ix1 (i 1))) (i 1)

/-- The normalized rows after their modulation. -/
def resultM (c : Dev nD) : S16384x2048.Idx → EReal := fun i =>
  shifted (scs m c) (shs m c) (fun q => result m c (ix2 (i 0) q)) (i 0) (i 1)

/-- A point stores its tokens' normalized rows. -/
theorem stored_11 (hO : Ok m) (c : Dev nD) (t : Fin (cfgM m hO).N) (r : Fin 512) (q : Fin 2048) :
    (outsAt0 m hO c t).1 (ix2 r q) = result m c (ix2 (tok t.val (lt_points m hO t) r) q) := by
  unfold outsAt0
  dsimp only
  refine (out_11_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) r q).trans ?_
  rw [blk_ya m hO c t, blk_yb m hO c t, blk_yc m hO c t, blk_xx m hO c t, blk_ws m hO c t, blk_gts m hO c t, blk_gs m hO c t, blk_bs m hO c t]
  rw [show blockRes (yaBlk m c t.val (lt_points m hO t)) (ybBlk m c t.val (lt_points m hO t)) (ycBlk m c t.val (lt_points m hO t)) (xxBlk m c t.val (lt_points m hO t)) (wsBlk m c) (gtsBlk m c t.val (lt_points m hO t)) r
    = residualRow (ya m c) (yb m c) (yc m c) (xx m c) (ws m c) (gts m c) (tok t.val (lt_points m hO t) r) from funext fun k => res_blocks m c t.val (lt_points m hO t) r k]
  rfl

/-- A point stores its tokens' modulated rows. -/
theorem stored_12 (hO : Ok m) (c : Dev nD) (t : Fin (cfgM m hO).N) (r : Fin 512) (q : Fin 2048) :
    (outsAt0 m hO c t).2.1 (ix2 r q) = resultM m c (ix2 (tok t.val (lt_points m hO t) r) q) := by
  unfold outsAt0
  dsimp only
  refine (out_12_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) r q).trans ?_
  rw [blk_ya m hO c t, blk_yb m hO c t, blk_yc m hO c t, blk_xx m hO c t, blk_ws m hO c t, blk_gts m hO c t, blk_gs m hO c t, blk_bs m hO c t, blk_scs m hO c t, blk_shs m hO c t]
  rw [show blockRes (yaBlk m c t.val (lt_points m hO t)) (ybBlk m c t.val (lt_points m hO t)) (ycBlk m c t.val (lt_points m hO t)) (xxBlk m c t.val (lt_points m hO t)) (wsBlk m c) (gtsBlk m c t.val (lt_points m hO t)) r
    = residualRow (ya m c) (yb m c) (yc m c) (xx m c) (ws m c) (gts m c) (tok t.val (lt_points m hO t) r) from funext fun k => res_blocks m c t.val (lt_points m hO t) r k]
  have e : condOf (tok t.val (lt_points m hO t) 0) = condOf (tok t.val (lt_points m hO t) r) := Fin.ext ((condOf_tok t.val (lt_points m hO t) 0).trans (condOf_tok t.val (lt_points m hO t) r).symm)
  unfold scsBlk shsBlk
  rw [e]
  rfl

/-- Where a point's block of output 11 places an index of it. -/
theorem placed_11 (hO : Ok m) (t : Fin (cfgM m hO).N) (y : S512x2048.Idx) :
    ((((cfgM m hO).win 11).blk t).view.emb y : S16384x2048.Idx) = ix2 (tok t.val (lt_points m hO t) (y 0)) (y 1) := by
  obtain ⟨-, -, -, -, ⟨h0, h1⟩, -⟩ := idx_rows t
  funext a
  apply Fin.ext
  match a with
  | ⟨0, _⟩ => show cc0_transform_11 (grid0.coords t) 0 * 512 + 1 * (y 0).val = t.val * 512 + (y 0).val; omega
  | ⟨1, _⟩ => show cc0_transform_11 (grid0.coords t) 1 * 2048 + 1 * (y 1).val = (y 1).val; omega

/-- The points' blocks of output 11 cover it. -/
theorem covered_11 (hO : Ok m) (i : S16384x2048.Idx) :
    ∃ t : Fin (cfgM m hO).N, ((cfgM m hO).win 11).flush t = true ∧ i ∈ (((cfgM m hO).win 11).blk t).view.set := by
  have hi0 : (i 0).val < 16384 := (i 0).isLt
  have ht : (i 0).val / 512 < (cfgM m hO).N := lt_of_lt_of_eq (by omega : _ < 32) N_0.symm
  refine ⟨⟨(i 0).val / 512, ht⟩, flush0_11 _ _, ?_⟩
  generalize hT : (⟨(i 0).val / 512, ht⟩ : Fin (cfgM m hO).N) = T
  have hv : T.val = (i 0).val / 512 := by rw [← hT]
  refine Finset.mem_map.2 ⟨(ix2 ⟨(i 0).val % 512, by omega⟩ (i 1) : S512x2048.Idx), Finset.mem_univ _, (placed_11 m hO T _).trans ?_⟩
  funext a
  apply Fin.ext
  match a with
  | ⟨0, _⟩ => show T.val * 512 + (i 0).val % 512 = (i 0).val; omega
  | ⟨1, _⟩ => rfl

/-- The call's output 11. -/
theorem final_11 (hO : Ok m) (c : Dev nD) : (dats m hO 0 c).arrAt 11 (cfgM m hO).N = result m c := by
  refine (dats m hO 0 c).arrAt_eq_of_emb 11 (result m c) (fun t hf y => ?_) (covered_11 m hO)
  show ((dats m hO 0 c).after 11 t : Vec Ideal S512x2048 .f32) y = _
  refine (congrFun (after0_11 m hO c t) y).trans ?_
  refine Eq.trans ?_ (congrArg (result m c) (placed_11 m hO t y)).symm
  exact (congrArg (outsAt0 m hO c t).1 (eq_ix2 (n0 := 512) (n1 := 2048) y)).trans (stored_11 m hO c t _ _)

/-- Where a point's block of output 12 places an index of it. -/
theorem placed_12 (hO : Ok m) (t : Fin (cfgM m hO).N) (y : S512x2048.Idx) :
    ((((cfgM m hO).win 12).blk t).view.emb y : S16384x2048.Idx) = ix2 (tok t.val (lt_points m hO t) (y 0)) (y 1) := by
  obtain ⟨-, -, -, -, -, h0, h1⟩ := idx_rows t
  funext a
  apply Fin.ext
  match a with
  | ⟨0, _⟩ => show cc0_transform_12 (grid0.coords t) 0 * 512 + 1 * (y 0).val = t.val * 512 + (y 0).val; omega
  | ⟨1, _⟩ => show cc0_transform_12 (grid0.coords t) 1 * 2048 + 1 * (y 1).val = (y 1).val; omega

/-- The points' blocks of output 12 cover it. -/
theorem covered_12 (hO : Ok m) (i : S16384x2048.Idx) :
    ∃ t : Fin (cfgM m hO).N, ((cfgM m hO).win 12).flush t = true ∧ i ∈ (((cfgM m hO).win 12).blk t).view.set := by
  have hi0 : (i 0).val < 16384 := (i 0).isLt
  have ht : (i 0).val / 512 < (cfgM m hO).N := lt_of_lt_of_eq (by omega : _ < 32) N_0.symm
  refine ⟨⟨(i 0).val / 512, ht⟩, flush0_12 _ _, ?_⟩
  generalize hT : (⟨(i 0).val / 512, ht⟩ : Fin (cfgM m hO).N) = T
  have hv : T.val = (i 0).val / 512 := by rw [← hT]
  refine Finset.mem_map.2 ⟨(ix2 ⟨(i 0).val % 512, by omega⟩ (i 1) : S512x2048.Idx), Finset.mem_univ _, (placed_12 m hO T _).trans ?_⟩
  funext a
  apply Fin.ext
  match a with
  | ⟨0, _⟩ => show T.val * 512 + (i 0).val % 512 = (i 0).val; omega
  | ⟨1, _⟩ => rfl

/-- The call's output 12. -/
theorem final_12 (hO : Ok m) (c : Dev nD) : (dats m hO 0 c).arrAt 12 (cfgM m hO).N = resultM m c := by
  refine (dats m hO 0 c).arrAt_eq_of_emb 12 (resultM m c) (fun t hf y => ?_) (covered_12 m hO)
  show ((dats m hO 0 c).after 12 t : Vec Ideal S512x2048 .bf16) y = _
  refine (congrFun (after0_12 m hO c t) y).trans ?_
  refine Eq.trans ?_ (congrArg (resultM m c) (placed_12 m hO t y)).symm
  exact (congrArg (outsAt0 m hO c t).2.1 (eq_ix2 (n0 := 512) (n1 := 2048) y)).trans (stored_12 m hO c t _ _)

/-- The run: the results are the normalized rows and the modulated rows, the arguments are unchanged. -/
theorem run : θ_run defs (onTc (τ := τ) (main (F := Ideal))) ⟨m, fun _ => 0, ρ⟩ fun r => ∀ c : Dev nD,
      r.2.mem ((c : Thread nD τ).loc main_v11_0) = result m c
      ∧ r.2.mem ((c : Thread nD τ).loc main_v11_1) = resultM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h.1 c).1 11).trans (final_11 m (ok m) c), ((h.1 c).1 12).trans (final_12 m (ok m) c), h.2 c⟩)
    (θ_run_and (run_main m ρ (ok m)) (unchanged m ρ (ok m)))

end Cert.WoutIdeal.Hand

end
-- ==== Proof.WoutTable.lean ====
module

public import proofs.«01_k».proof.Proof.Gen.Wout.Frame.Runs
public import Idealize.ShloMosaic.Lib.StableHlo.Run
public import Idealize.ShloMosaic.PureOps.BitExact

@[expose] public section

set_option maxRecDepth 16384

noncomputable section

namespace Cert.Wout.Hand

open Cert.Wout Cert.Wout.Gen Idealize.ShloMosaic Idealize.ShloMosaic.TcCoe Idealize.SL.Sem

variable {F : FTy → Type} [FloatOps F] (m : (ℓ : Loc nD τ sig) → Buf (Elt F) ℓ)

/-- The modulation row of each block of 512 rows: row 0 for the first 16 blocks, then a row for each four blocks. -/
def conds : S32.Idx → BitVec 32 := fun x => lit0 (S32.rowMajor x)

set_option backward.proofsInPublic true in
/-- Those words as the table's contents. -/
def table : pre0.Contents (Elt F) := fun | ⟨0, _⟩ => conds | ⟨_ + 1, h⟩ => absurd h (by simp)

/-- The region finds those words in the table: the program itself writes them. -/
theorem tbl_eq : tbl m = table (F := F) := by
  funext j
  match j with
  | ⟨0, _⟩ =>
    show StableHlo.after hostOps0 (fun b => m (0, b)) main_c = conds
    after_results_simp
    rfl

/-- The table's rows are inside the modulations' array. -/
theorem ok (m : (ℓ : Loc nD τ sig) → Buf (Elt Bits) ℓ) : Ok (F := Bits) m := by
  unfold Ok
  rw [tbl_eq m]
  decide +kernel

end Cert.Wout.Hand

end
-- ==== Proof.WoutRefAt.lean ====
module

public import proofs.«01_k».proof.Proof.Gen.WoutRefIdeal.Run
public import proofs.«01_k».proof.Proof.WoutMath
public import proofs.«01_k».proof.Proof.WinRefAt
public import Idealize.ShloMosaic.Lib.Pointwise

@[expose] public section

set_option maxRecDepth 16384

noncomputable section

namespace Cert.WoutRefIdeal.Hand

open Cert.WoutRefIdeal Cert.WoutRefIdeal.Gen Cert.WoutRefIdeal.Value Idealize.ShloMosaic Idealize.ShloMosaic.TcCoe
open Cert.Proof.WinCols (condOf)
open Cert.Proof.WoutMath (mean normed beside residualRow shifted)
open Cert.WinRefIdeal.Hand (rows rows_apply)

/-- The three mixers' rows side by side. -/
def mixed (ya : FVec Ideal S16384x512 .f32) (yb yc : FVec Ideal S16384x768 .f32) : FVec Ideal S16384x2048 .f32 :=
  concatenate S16384x2048 1 [⟨S16384x512, ya⟩, ⟨S16384x768, yb⟩, ⟨S16384x768, yc⟩] concatenates_S16384x512_S16384x768_S16384x768_S16384x2048_d1

/-- Those rows at an index. -/
theorem mixed_apply (ya : FVec Ideal S16384x512 .f32) (yb yc : FVec Ideal S16384x768 .f32) (r : Fin 16384) (k : Fin 2048) :
    mixed ya yb yc (ix2 r k) = beside (fun k => ya (ix2 r k)) (fun k => yb (ix2 r k)) (fun k => yc (ix2 r k)) k := by
  have off : ∀ {w : ℕ} (q : Fin w) (b : Fin 2), b ≠ 1 → (ix2 (n0 := 16384) (n1 := w) r q b).val = (ix2 (n0 := 16384) (n1 := 2048) r k b).val := by
    intro w q b hb
    match b with
    | ⟨0, _⟩ => rfl
    | ⟨1, _⟩ => exact absurd rfl hb
  unfold mixed beside
  by_cases h : k.val < 512
  · rw [dif_pos h]
    exact concatenate_apply_piece (t := S16384x2048) (1 : Fin 2) [⟨S16384x512, ya⟩, ⟨S16384x768, yb⟩, ⟨S16384x768, yc⟩] concatenates_S16384x512_S16384x768_S16384x768_S16384x2048_d1 (ix2 r k) 0 (by simp) S16384x512 ya rfl rfl 0 (by simp) (ix2 r ⟨k.val, h⟩) (fun b hb => off _ b hb) (by show 0 + k.val = k.val; omega)
  rw [dif_neg h]
  by_cases h' : k.val < 1280
  · rw [dif_pos h']
    exact concatenate_apply_piece (t := S16384x2048) (1 : Fin 2) [⟨S16384x512, ya⟩, ⟨S16384x768, yb⟩, ⟨S16384x768, yc⟩] concatenates_S16384x512_S16384x768_S16384x768_S16384x2048_d1 (ix2 r k) 1 (by simp) S16384x768 yb rfl rfl 512 (by simp) (ix2 r ⟨k.val - 512, by omega⟩) (fun b hb => off _ b hb) (by show 512 + (k.val - 512) = k.val; omega)
  rw [dif_neg h']
  exact concatenate_apply_piece (t := S16384x2048) (1 : Fin 2) [⟨S16384x512, ya⟩, ⟨S16384x768, yb⟩, ⟨S16384x768, yc⟩] concatenates_S16384x512_S16384x768_S16384x768_S16384x2048_d1 (ix2 r k) 2 (by simp) S16384x768 yc rfl rfl 1280 (by simp) (ix2 r ⟨k.val - 1280, by omega⟩) (fun b hb => off _ b hb) (by show 1280 + (k.val - 1280) = k.val; omega)

/-- The rows before their normalization. -/
def resid (ya : FVec Ideal S16384x512 .f32) (yb yc : FVec Ideal S16384x768 .f32) (x : FVec Ideal S16384x2048 .f32) (w : FVec Ideal S2048x2048 .f32) (gt : FVec Ideal S8x1x2048 .f32) : FVec Ideal S16384x2048 .f32 :=
  addf (mulf (broadcastInDim S16384x2048 ![] bcast_S_S16384x2048 (constant S_ .f32 0x3FB504F3#32)) x) (mulf (rows gt) (Host.dotGeneral dot_S16384x2048_S2048x2048_S16384x2048_1_0_0_1_n_n none (mixed ya yb yc) w))

/-- Those rows at an index. -/
theorem resid_apply (ya : FVec Ideal S16384x512 .f32) (yb yc : FVec Ideal S16384x768 .f32) (x : FVec Ideal S16384x2048 .f32) (w : FVec Ideal S2048x2048 .f32) (gt : FVec Ideal S8x1x2048 .f32) (r : Fin 16384) (q : Fin 2048) :
    resid ya yb yc x w gt (ix2 r q) = residualRow ya yb yc x w gt r q := by
  unfold resid residualRow
  simp only [pointwise, rows_apply, mixed_apply]
  simp

/-- The row means of an array. -/
def means (R : FVec Ideal S16384x2048 .f32) : FVec Ideal S16384x1 .f32 :=
  Host.divf (broadcastInDim S16384x1 ![0] bcast_S16384_S16384x1_0 (Host.reduceAdd R (constant S_ .f32 0x00000000#32) reducesTo_S16384x2048_S16384_d1 h_S_)) (broadcastInDim S16384x1 ![] bcast_S_S16384x1 (constant S_ .f32 0x45000000#32))

/-- A row mean. -/
theorem means_apply (R : FVec Ideal S16384x2048 .f32) (r : Fin 16384) (z : Fin 1) :
    means R (ix2 r z) = mean fun k => R (ix2 r k) := by
  unfold means mean
  simp only [pointwise]
  simp

/-- An array's rows less their means. -/
def centred (R : FVec Ideal S16384x2048 .f32) : FVec Ideal S16384x2048 .f32 :=
  subf R (broadcastInDim S16384x2048 ![0, 1] bcast_S16384x1_S16384x2048_0_1 (means R))

theorem centred_apply (R : FVec Ideal S16384x2048 .f32) (r : Fin 16384) (q : Fin 2048) :
    centred R (ix2 r q) = R (ix2 r q) - mean fun k => R (ix2 r k) := by
  unfold centred
  simp only [pointwise]
  simp [means_apply]

/-- An array's rows normalized. -/
def normalized (R : FVec Ideal S16384x2048 .f32) (g b : FVec Ideal S2048 .f32) : FVec Ideal S16384x2048 .f32 :=
  addf (mulf (mulf (centred R) (broadcastInDim S16384x2048 ![0, 1] bcast_S16384x1_S16384x2048_0_1 (Host.rsqrt (addf (means (mulf (centred R) (centred R))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

/-- A normalized row at an index. -/
theorem normalized_apply (R : FVec Ideal S16384x2048 .f32) (g b : FVec Ideal S2048 .f32) (r : Fin 16384) (q : Fin 2048) :
    normalized R g b (ix2 r q) = normed (fun k => R (ix2 r k)) (g (ix1 q)) (b (ix1 q)) q := by
  unfold normalized normed
  simp only [pointwise]
  simp [means_apply, centred_apply, pointwise]

/-- Normalized rows after their modulation. -/
def moved (N : FVec Ideal S16384x2048 .f32) (sc sh : FVec Ideal S8x1x2048 .f32) : FVec Ideal S16384x2048 .bf16 :=
  truncf .bf16 (addf (mulf N (addf (broadcastInDim S16384x2048 ![] bcast_S_S16384x2048 (constant S_ .f32 0x3F800000#32)) (rows sc))) (rows sh)) bitsLt_bf16_f32

/-- Those rows at an index. -/
theorem moved_apply (N : FVec Ideal S16384x2048 .f32) (sc sh : FVec Ideal S8x1x2048 .f32) (r : Fin 16384) (q : Fin 2048) :
    moved N sc sh (ix2 r q) = shifted sc sh (fun q => N (ix2 r q)) r q := by
  unfold moved shifted
  simp only [pointwise, rows_apply]

variable (m : (ℓ : Loc nD τ sig) → Buf (Elt Ideal) ℓ)

/-- The rows before their normalization, from the arguments. -/
abbrev residM (c : Dev nD) : FVec Ideal S16384x2048 .f32 :=
  resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem res_normalized (c : Dev nD) : (res_main_v36 (F := Ideal) m c : FVec Ideal S16384x2048 .f32) = normalized (residM m c) (m ((c.tc : Thread nD τ).loc main_arg8)) (m ((c.tc : Thread nD τ).loc main_arg9)) := rfl

theorem res_moved (c : Dev nD) : (res_main_v55 (F := Ideal) m c : FVec Ideal S16384x2048 .bf16)
    = moved (normalized (residM m c) (m ((c.tc : Thread nD τ).loc main_arg8)) (m ((c.tc : Thread nD τ).loc main_arg9))) (m ((c.tc : Thread nD τ).loc main_arg6)) (m ((c.tc : Thread nD τ).loc main_arg7)) := rfl

end Cert.WoutRefIdeal.Hand

end
-- ==== Proof.WoutClaims.lean ====
module

public import proofs.«01_k».proof.Defs
public import proofs.«01_k».proof.Proof.WoutRun
public import proofs.«01_k».proof.Proof.WoutTable
public import proofs.«01_k».proof.Proof.WoutRefAt
public import proofs.«01_k».proof.Proof.Gen.Wout.Frame
public import proofs.«01_k».proof.Proof.Gen.WoutIdeal.Frame
public import proofs.«01_k».proof.Proof.Gen.WoutRefIdeal.Run
public import Idealize.ShloMosaic.Adequacy
public import Idealize.ShloMosaic.Init

@[expose] public section

set_option maxRecDepth 16384

noncomputable section

namespace Cert.Proof.WoutClaims

open Idealize.ShloMosaic Idealize.ShloMosaic.TcCoe Idealize.SL.Sem

/-- The output projection kernel's program ends, keeps its arguments and leaves every semaphore at zero. -/
theorem frame : Cert.quiescent_Wout := fun m ρ _ => Cert.Wout.Gen.frame m ρ (Cert.Wout.Hand.ok m)
/-- The same of its ideal form. -/
theorem frame_ideal : Cert.quiescent_WoutIdeal := fun m ρ _ => Cert.WoutIdeal.Gen.frame m ρ (Cert.WoutIdeal.Hand.ok m)
/-- The same of the reference's ideal form, from its run. -/
theorem frame_ref : Cert.quiescent_WoutRefIdeal := fun m ρ _ =>
  (θ_run Cert.WoutRefIdeal.defs _ _).mono (fun r h => ⟨fun c => (h c).2.2, sem_eq_zero_of_no_sems (by decide) r.2⟩)
    (Cert.WoutRefIdeal.Value.run (F := Ideal) m ρ)
/-- Nothing was rewritten between the kernel and its ideal form. -/
theorem preserves : Cert.preserves_Wout_WoutIdeal := trivial

/-- The reference's normalized rows, from the kernel's arguments: at every token and column, the normalized row of the scaled
    residual and the gated product of the mixers' rows with the weights. -/
theorem rows_eq (m : (ℓ : Loc Cert.WoutIdeal.nD Cert.WoutIdeal.τ Cert.WoutIdeal.sig) → Buf (Elt Ideal) ℓ)
    (m' : (ℓ : Loc Cert.WoutRefIdeal.nD Cert.WoutRefIdeal.τ Cert.WoutRefIdeal.sig) → Buf (Elt Ideal) ℓ) (c : Dev Cert.WoutIdeal.nD)
    (h0 : m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0))
    (h1 : m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1))
    (h2 : m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2))
    (h3 : m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3))
    (h4 : m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4))
    (h5 : m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5))
    (h6 : m' ((c.tc : Thread Cert.WoutRefIdeal.nD Cert.WoutRefIdeal.τ).loc Cert.WoutRefIdeal.main_arg6) = m ((c.tc : Thread Cert.WoutIdeal.nD Cert.WoutIdeal.τ).loc Cert.WoutIdeal.main_arg6))
    (h7 : m' ((c.tc : Thread Cert.WoutRefIdeal.nD Cert.WoutRefIdeal.τ).loc Cert.WoutRefIdeal.main_arg7) = m ((c.tc : Thread Cert.WoutIdeal.nD Cert.WoutIdeal.τ).loc Cert.WoutIdeal.main_arg7))
    (h8 : m' ((c.tc : Thread Cert.WoutRefIdeal.nD Cert.WoutRefIdeal.τ).loc Cert.WoutRefIdeal.main_arg8) = m ((c.tc : Thread Cert.WoutIdeal.nD Cert.WoutIdeal.τ).loc Cert.WoutIdeal.main_arg8))
    (h9 : m' ((c.tc : Thread Cert.WoutRefIdeal.nD Cert.WoutRefIdeal.τ).loc Cert.WoutRefIdeal.main_arg9) = m ((c.tc : Thread Cert.WoutIdeal.nD Cert.WoutIdeal.τ).loc Cert.WoutIdeal.main_arg9))
    :
    Cert.WoutRefIdeal.Hand.normalized (Cert.WoutRefIdeal.Hand.residM m' c) (m' ((c.tc : Thread Cert.WoutRefIdeal.nD Cert.WoutRefIdeal.τ).loc Cert.WoutRefIdeal.main_arg8)) (m' ((c.tc : Thread Cert.WoutRefIdeal.nD Cert.WoutRefIdeal.τ).loc Cert.WoutRefIdeal.main_arg9))
      = Cert.WoutIdeal.Hand.result m c := by
  funext i
  idx_vars i
  refine (Cert.WoutRefIdeal.Hand.normalized_apply _ _ _ i0 i1).trans ?_
  unfold Cert.WoutRefIdeal.Hand.residM
  simp only [Cert.WoutRefIdeal.Hand.resid_apply]
  rw [h0, h1, h2, h3, h4, h5, h8, h9]
  rfl

/-- From arguments that agree the kernel's first array and the reference's first array hold the same numbers. -/
theorem first_eq (m : (ℓ : Loc Cert.WoutIdeal.nD Cert.WoutIdeal.τ Cert.WoutIdeal.sig) → Buf (Elt Ideal) ℓ)
    (m' : (ℓ : Loc Cert.WoutRefIdeal.nD Cert.WoutRefIdeal.τ Cert.WoutRefIdeal.sig) → Buf (Elt Ideal) ℓ) (c : Dev Cert.WoutIdeal.nD)
    (h0 : m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0))
    (h1 : m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1))
    (h2 : m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2))
    (h3 : m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3))
    (h4 : m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4))
    (h5 : m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5))
    (h6 : m' ((c.tc : Thread Cert.WoutRefIdeal.nD Cert.WoutRefIdeal.τ).loc Cert.WoutRefIdeal.main_arg6) = m ((c.tc : Thread Cert.WoutIdeal.nD Cert.WoutIdeal.τ).loc Cert.WoutIdeal.main_arg6))
    (h7 : m' ((c.tc : Thread Cert.WoutRefIdeal.nD Cert.WoutRefIdeal.τ).loc Cert.WoutRefIdeal.main_arg7) = m ((c.tc : Thread Cert.WoutIdeal.nD Cert.WoutIdeal.τ).loc Cert.WoutIdeal.main_arg7))
    (h8 : m' ((c.tc : Thread Cert.WoutRefIdeal.nD Cert.WoutRefIdeal.τ).loc Cert.WoutRefIdeal.main_arg8) = m ((c.tc : Thread Cert.WoutIdeal.nD Cert.WoutIdeal.τ).loc Cert.WoutIdeal.main_arg8))
    (h9 : m' ((c.tc : Thread Cert.WoutRefIdeal.nD Cert.WoutRefIdeal.τ).loc Cert.WoutRefIdeal.main_arg9) = m ((c.tc : Thread Cert.WoutIdeal.nD Cert.WoutIdeal.τ).loc Cert.WoutIdeal.main_arg9))
    :
    (Cert.WoutRefIdeal.Value.res_main_v36 (F := Ideal) m' c : Vec Ideal Cert.WoutIdeal.S16384x2048 .f32) = Cert.WoutIdeal.Hand.result m c :=
  (Cert.WoutRefIdeal.Hand.res_normalized m' c).trans (rows_eq m m' c h0 h1 h2 h3 h4 h5 h6 h7 h8 h9)

/-- So do their second arrays. -/
theorem second_eq (m : (ℓ : Loc Cert.WoutIdeal.nD Cert.WoutIdeal.τ Cert.WoutIdeal.sig) → Buf (Elt Ideal) ℓ)
    (m' : (ℓ : Loc Cert.WoutRefIdeal.nD Cert.WoutRefIdeal.τ Cert.WoutRefIdeal.sig) → Buf (Elt Ideal) ℓ) (c : Dev Cert.WoutIdeal.nD)
    (h0 : m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0))
    (h1 : m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1))
    (h2 : m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2))
    (h3 : m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3))
    (h4 : m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4))
    (h5 : m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5))
    (h6 : m' ((c.tc : Thread Cert.WoutRefIdeal.nD Cert.WoutRefIdeal.τ).loc Cert.WoutRefIdeal.main_arg6) = m ((c.tc : Thread Cert.WoutIdeal.nD Cert.WoutIdeal.τ).loc Cert.WoutIdeal.main_arg6))
    (h7 : m' ((c.tc : Thread Cert.WoutRefIdeal.nD Cert.WoutRefIdeal.τ).loc Cert.WoutRefIdeal.main_arg7) = m ((c.tc : Thread Cert.WoutIdeal.nD Cert.WoutIdeal.τ).loc Cert.WoutIdeal.main_arg7))
    (h8 : m' ((c.tc : Thread Cert.WoutRefIdeal.nD Cert.WoutRefIdeal.τ).loc Cert.WoutRefIdeal.main_arg8) = m ((c.tc : Thread Cert.WoutIdeal.nD Cert.WoutIdeal.τ).loc Cert.WoutIdeal.main_arg8))
    (h9 : m' ((c.tc : Thread Cert.WoutRefIdeal.nD Cert.WoutRefIdeal.τ).loc Cert.WoutRefIdeal.main_arg9) = m ((c.tc : Thread Cert.WoutIdeal.nD Cert.WoutIdeal.τ).loc Cert.WoutIdeal.main_arg9))
    :
    (Cert.WoutRefIdeal.Value.res_main_v55 (F := Ideal) m' c : Vec Ideal Cert.WoutIdeal.S16384x2048 .bf16) = Cert.WoutIdeal.Hand.resultM m c := by
  refine (Cert.WoutRefIdeal.Hand.res_moved m' c).trans ?_
  rw [rows_eq m m' c h0 h1 h2 h3 h4 h5 h6 h7 h8 h9, h6, h7]
  funext i
  idx_vars i
  exact Cert.WoutRefIdeal.Hand.moved_apply _ _ _ i0 i1

/-- The kernel's ideal form and the reference's ideal form leave the same arrays. -/
theorem algebraic : Cert.algebraic_WoutIdeal_WoutRefIdeal := fun m ρ m' ρ' _ hag =>
  ⟨fun c => Cert.WoutIdeal.Hand.result m c, fun c => Cert.WoutIdeal.Hand.resultM m c, Cert.WoutIdeal.Hand.run m ρ,
    (θ_run Cert.WoutRefIdeal.defs _ _).mono
      (fun _ h c => ⟨(h c).1.trans (first_eq m m' c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1), (h c).2.1.trans (second_eq m m' c (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1), (h c).2.2⟩)
      (Cert.WoutRefIdeal.Value.run (F := Ideal) m' ρ')⟩

end Cert.Proof.WoutClaims

end
-- ==== Proof.lean ====
module

public import proofs.«01_k».proof.Defs
public import proofs.«01_k».proof.Proof.FfnClaims
public import proofs.«01_k».proof.Proof.RouteClaims
public import proofs.«01_k».proof.Proof.WinClaims
public import proofs.«01_k».proof.Proof.WoutClaims
public import proofs.«01_k».proof.Proof.Gen.Route.Frame
public import proofs.«01_k».proof.Proof.Gen.RouteIdeal.Frame
public import proofs.«01_k».proof.Proof.Gen.RouteRefIdeal.Run
public import proofs.«01_k».proof.Proof.Gen.Ffn.Frame
public import proofs.«01_k».proof.Proof.Gen.Win.Frame
public import proofs.«01_k».proof.Proof.Gen.WinIdeal.Frame
public import proofs.«01_k».proof.Proof.Gen.WinRefIdeal.Run
public import Idealize.ShloMosaic.Adequacy
public import Idealize.ShloMosaic.Init

@[expose] public section

noncomputable section

namespace Cert.Proof

open Idealize.ShloMosaic Idealize.SL.Sem

/-- The routing kernel's program ends, keeps its arguments and leaves every semaphore at zero. -/
theorem frame_route : Cert.quiescent_Route := fun m ρ _ => Cert.Route.Gen.frame m ρ
/-- The same of its ideal form. -/
theorem frame_route_ideal : Cert.quiescent_RouteIdeal := fun m ρ _ => Cert.RouteIdeal.Gen.frame m ρ
/-- The same of the routing reference's ideal form, from its run. -/
theorem frame_route_ref : Cert.quiescent_RouteRefIdeal := fun m ρ _ =>
  (θ_run Cert.RouteRefIdeal.defs _ _).mono (fun r h => ⟨fun c => (h c).2.2, sem_eq_zero_of_no_sems (by decide) r.2⟩)
    (Cert.RouteRefIdeal.Value.run (F := Ideal) m ρ)
/-- Nothing was rewritten between the routing kernel and its ideal form. -/
theorem preserves_route : Cert.preserves_Route_RouteIdeal := trivial

/-- Everything claimed. -/
theorem claim : Cert.Claim :=
  ⟨Cert.Route.Gen.facts, Cert.RouteIdeal.Gen.facts, Cert.RouteRefIdeal.Gen.facts, Cert.Ffn.Gen.facts, Cert.FfnIdeal.Gen.facts, Cert.FfnRefIdeal.Gen.facts, Cert.Win.Gen.facts, Cert.WinIdeal.Gen.facts, Cert.WinRefIdeal.Gen.facts, Cert.Wout.Gen.facts, Cert.WoutIdeal.Gen.facts, Cert.WoutRefIdeal.Gen.facts,
    frame_route, frame_route_ideal, frame_route_ref, FfnClaims.frame, FfnClaims.frame_ideal, FfnClaims.frame_ref, WinClaims.frame, WinClaims.frame_ideal, WinClaims.frame_ref, WoutClaims.frame, WoutClaims.frame_ideal, WoutClaims.frame_ref, preserves_route, RouteClaims.algebraic, FfnClaims.preserves, FfnClaims.algebraic, WinClaims.preserves, WinClaims.algebraic, WoutClaims.preserves, WoutClaims.algebraic⟩

end Cert.Proof

end
